-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pushes [hPre_pushes : Cert.Pre_pushes.Facts] (m : (ℓ : Loc Cert.KernelIdeal.nD Cert.KernelIdeal.τ Cert.KernelIdeal.sig) → Buf (Elt Ideal) ℓ) : Prop :=
  ∀ c : Dev Cert.KernelIdeal.nD,
    (Cert.Pre_pushes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pushes [hPre_pushes : Cert.Pre_pushes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pushes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_pushes [hKernelIdeal : Cert.KernelIdeal.Facts] [hPre_pushes : Cert.Pre_pushes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pushes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_pushes [hReferenceIdeal : Cert.ReferenceIdeal.Facts] [hPre_pushes : Cert.Pre_pushes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pushes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_pushes [hKernelIdeal : Cert.KernelIdeal.Facts] [hReferenceIdeal : Cert.ReferenceIdeal.Facts] [hPre_pushes : Cert.Pre_pushes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pushes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24_12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_pushes : Cert.Pre_pushes.Facts),
    quiescent_Kernel (hKernel := hKernel)
    ∧ quiescent_KernelIdeal (hKernelIdeal := hKernelIdeal)
    ∧ quiescent_KernelIdeal_pre_pushes (hKernelIdeal := hKernelIdeal) (hPre_pushes := hPre_pushes)
    ∧ quiescent_ReferenceIdeal (hReferenceIdeal := hReferenceIdeal)
    ∧ quiescent_ReferenceIdeal_pre_pushes (hReferenceIdeal := hReferenceIdeal) (hPre_pushes := hPre_pushes)
    ∧ preserves_Kernel_KernelIdeal
    ∧ algebraic_KernelIdeal_ReferenceIdeal_pre_pushes (hKernelIdeal := hKernelIdeal) (hReferenceIdeal := hReferenceIdeal) (hPre_pushes := hPre_pushes)
-- ==== Pre_pushes.lean ====
abbrev S32x1024x128 : Shape := ⟨3, ![32, 1024, 128]⟩
abbrev S32x1024 : Shape := ⟨2, ![32, 1024]⟩
abbrev S512x128 : Shape := ⟨2, ![512, 128]⟩
abbrev S512 : Shape := ⟨1, ![512]⟩
abbrev S128 : Shape := ⟨1, ![128]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel

variable [Facts]

def fn {F : FTy → Type} [FloatOps F] (main_arg0 : FVec F S32x1024x128 .f32) (main_arg1 : IVec S32x1024 32) (main_arg2 : FVec F S512x128 .f32) (main_arg3 : FVec F S512x128 .f32) (main_arg4 : FVec F S512 .f32) (main_arg5 : FVec F S512 .f32) (main_arg6 : FVec F S128 .f32) (main_arg7 : FVec F S128 .f32) : IVec S_ 1 :=
  let main_c : IVec S_ 32 := constantI S_ 32 0#32
  let main_v0 : IVec S32x1024 32 := broadcastInDim S32x1024 ![] bcast_S_S32x1024 main_c
  let main_v1 : IVec S32x1024 1 := cmpi .sge main_arg1 main_v0
  let main_c_0 : IVec S_ 32 := constantI S_ 32 1#32
  let main_v2 : IVec S32x1024 32 := broadcastInDim S32x1024 ![] bcast_S_S32x1024 main_c_0
  let main_v3 : IVec S32x1024 1 := cmpi .sle main_arg1 main_v2
  let main_v4 : IVec S32x1024 1 := andi main_v1 main_v3
  let main_c_1 : IVec S_ 1 := constantI S_ 1 1#1
  let main_v5 : IVec S_ 1 := (fun x v => Host.reduce IntOp.andi x v reducesTo_S32x1024_S_d0_1 h_S_) main_v4 main_c_1
  main_v5
-- ==== Kernel.lean ====
abbrev S32x1024x128 : Shape := ⟨3, ![32, 1024, 128]⟩
abbrev S32x1024 : Shape := ⟨2, ![32, 1024]⟩
abbrev S512x128 : Shape := ⟨2, ![512, 128]⟩
abbrev S512 : Shape := ⟨1, ![512]⟩
abbrev S128 : Shape := ⟨1, ![128]⟩
abbrev S_ : Shape := ⟨0, ![]⟩
abbrev S128x512 : Shape := ⟨2, ![128, 512]⟩
abbrev S1x512 : Shape := ⟨2, ![1, 512]⟩
abbrev S256x512 : Shape := ⟨2, ![256, 512]⟩
abbrev S1 : Shape := ⟨1, ![1]⟩
abbrev S1x128 : Shape := ⟨2, ![1, 128]⟩
abbrev S31x1024x128 : Shape := ⟨3, ![31, 1024, 128]⟩
abbrev S1x1024x128 : Shape := ⟨3, ![1, 1024, 128]⟩
abbrev S1024x256 : Shape := ⟨2, ![1024, 256]⟩
abbrev S1024x128 : Shape := ⟨2, ![1024, 128]⟩
abbrev S1024x512 : Shape := ⟨2, ![1024, 512]⟩
abbrev S1x1024 : Shape := ⟨2, ![1, 1024]⟩
abbrev S1024 : Shape := ⟨1, ![1024]⟩
abbrev S1024x1 : Shape := ⟨2, ![1024, 1]⟩

abbrev nBuf : Space → Nat
  | .hbm => 38
  | .vmem => 13
  | .smem => 0
  | _ => 0

abbrev bufTy : (tb : Table) → Fin (tcTables nBuf tb) → BufTy
  | .hbm, ⟨0, _⟩ => ⟨S32x1024x128, .f32⟩
  | .hbm, ⟨1, _⟩ => ⟨S32x1024, .i32⟩
  | .hbm, ⟨2, _⟩ => ⟨S512x128, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S512, .f32⟩
  | .hbm, ⟨17, _⟩ => ⟨S128x512, .f32⟩
  | .hbm, ⟨18, _⟩ => ⟨S1x512, .f32⟩
  | .hbm, ⟨19, _⟩ => ⟨S128x512, .f32⟩
  | .hbm, ⟨20, _⟩ => ⟨S128x512, .f32⟩
  | .hbm, ⟨21, _⟩ => ⟨S_, .f32⟩
  | .hbm, ⟨22, _⟩ => ⟨S256x512, .f32⟩
  | .hbm, ⟨23, _⟩ => ⟨S128x512, .f32⟩
  | .hbm, ⟨24, _⟩ => ⟨S1x512, .f32⟩
  | .hbm, ⟨25, _⟩ => ⟨S128x512, .f32⟩
  | .hbm, ⟨26, _⟩ => ⟨S128x512, .f32⟩
  | .hbm, ⟨27, _⟩ => ⟨S_, .i32⟩
  | .hbm, ⟨28, _⟩ => ⟨S1, .i32⟩
  | .hbm, ⟨29, _⟩ => ⟨S256x512, .f32⟩
  | .hbm, ⟨30, _⟩ => ⟨S512, .f32⟩
  | .hbm, ⟨31, _⟩ => ⟨S512, .f32⟩
  | .hbm, ⟨32, _⟩ => ⟨S_, .i32⟩
  | .hbm, ⟨33, _⟩ => ⟨S1, .i32⟩
  | .hbm, ⟨34, _⟩ => ⟨S256x512, .f32⟩
  | .hbm, ⟨35, _⟩ => ⟨S1x128, .f32⟩
  | .hbm, ⟨36, _⟩ => ⟨S1x128, .f32⟩
  | .hbm, ⟨37, _⟩ => ⟨S31x1024x128, .f32⟩
  | .local _ .vmem, ⟨0, _⟩ => ⟨S32x1024, .i32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S128x512, .f32⟩
  | .local _ .vmem, ⟨5, _⟩ => ⟨S256x512, .f32⟩
  | .local _ .vmem, ⟨6, _⟩ => ⟨S1x128, .f32⟩
  | .local _ .vmem, ⟨7, _⟩ => ⟨S1x128, .f32⟩
  | .local _ .vmem, ⟨8, _⟩ => ⟨S1x1024x128, .f32⟩
  | .local _ .vmem, ⟨9, _⟩ => ⟨S1x1024x128, .f32⟩
  | .local _ .vmem, ⟨10, _⟩ => ⟨S1024x256, .f32⟩
  | .local _ .vmem, ⟨11, _⟩ => ⟨S1024x128, .f32⟩
  | .local _ .vmem, ⟨12, _⟩ => ⟨S1024x512, .f32⟩
  | _, _ => ⟨S32x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_cst_2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![31], ![false]⟩

def k0_off1 (i : grid0.Coords) : Fin 2 → Nat :=
  let arg0 : BitVec 32 := BitVec.ofNat 32 (i 0).val
  let c1_i32 : BitVec 32 := 1#32
  let v32 : BitVec 32 := Scalar.addi arg0 c1_i32
  let v33 : Index := Scalar.indexCast v32
  let c0_14 : Index := 0#32
  ![v33.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S32x1024x128 : Shape := ⟨3, ![32, 1024, 128]⟩
abbrev S32x1024 : Shape := ⟨2, ![32, 1024]⟩
abbrev S512x128 : Shape := ⟨2, ![512, 128]⟩
abbrev S512 : Shape := ⟨1, ![512]⟩
abbrev S128 : Shape := ⟨1, ![128]⟩
abbrev S_ : Shape := ⟨0, ![]⟩
abbrev S65x1024x128 : Shape := ⟨3, ![65, 1024, 128]⟩
abbrev S1024x128 : Shape := ⟨2, ![1024, 128]⟩
abbrev S1 : Shape := ⟨1, ![1]⟩
abbrev S1024 : Shape := ⟨1, ![1024]⟩
abbrev S31x1024x128 : Shape := ⟨3, ![31, 1024, 128]⟩
abbrev S31x1024 : Shape := ⟨2, ![31, 1024]⟩
abbrev S1x1024x128 : Shape := ⟨3, ![1, 1024, 128]⟩
abbrev S1x1024 : Shape := ⟨2, ![1, 1024]⟩
abbrev S1024x1 : Shape := ⟨2, ![1024, 1]⟩
abbrev S1024x2 : Shape := ⟨2, ![1024, 2]⟩
abbrev S128x512 : Shape := ⟨2, ![128, 512]⟩
abbrev S1024x512 : Shape := ⟨2, ![1024, 512]⟩
abbrev S1x512 : Shape := ⟨2, ![1, 512]⟩

abbrev nBuf : Space → Nat
  | .hbm => 241
  | .vmem => 0
  | .smem => 0
  | _ => 0

abbrev hbmTy0_0 (i : Nat) : BufTy := match i % 128 with
  | 0 => ⟨S32x1024x128, .f32⟩
  | 1 => ⟨S32x1024, .i32⟩
  | 2 => ⟨S512x128, .f32⟩
  | 3 => ⟨S512x128, .f32⟩
  | 4 => ⟨S512, .f32⟩
  | 5 => ⟨S512, .f32⟩
  | 6 => ⟨S128, .f32⟩
  | 7 => ⟨S128, .f32⟩
  | 8 => ⟨S_, .i32⟩
  | 9 => ⟨S_, .i32⟩
  | 10 => ⟨S32x1024, .i32⟩
  | 11 => ⟨S_, .i32⟩
  | 12 => ⟨S32x1024, .i32⟩
  | 13 => ⟨S32x1024, .i32⟩
  | 14 => ⟨S_, .i32⟩
  | 15 => ⟨S32x1024, .i32⟩
  | 16 => ⟨S32x1024, .i32⟩
  | 17 => ⟨S_, .i32⟩
  | 18 => ⟨S32x1024, .i32⟩
  | 19 => ⟨S32x1024, .i1⟩
  | 20 => ⟨S_, .i32⟩
  | 21 => ⟨S32x1024, .i32⟩
  | 22 => ⟨S32x1024, .i32⟩
  | 23 => ⟨S32x1024, .i32⟩
  | 24 => ⟨S_, .f32⟩
  | 25 => ⟨S65x1024x128, .f32⟩
  | 26 => ⟨S_, .f32⟩
  | 27 => ⟨S65x1024x128, .f32⟩
  | 28 => ⟨S1024x128, .f32⟩
  | 29 => ⟨S_, .i32⟩
  | 30 => ⟨S1, .i32⟩
  | 31 => ⟨S65x1024x128, .f32⟩
  | 32 => ⟨S1024x128, .f32⟩
  | 33 => ⟨S_, .i32⟩
  | 34 => ⟨S1, .i32⟩
  | 35 => ⟨S65x1024x128, .f32⟩
  | 36 => ⟨S1024, .i32⟩
  | 37 => ⟨S31x1024x128, .f32⟩
  | 38 => ⟨S31x1024, .i32⟩
  | 39 => ⟨S31x1024, .i32⟩
  | 40 => ⟨S31x1024, .i32⟩
  | 41 => ⟨S_, .f32⟩
  | 42 => ⟨S31x1024x128, .f32⟩
  | 43 => ⟨S_, .i32⟩
  | 44 => ⟨S31x1024x128, .f32⟩
  | 45 => ⟨S31x1024, .i32⟩
  | 46 => ⟨S31x1024, .i32⟩
  | 47 => ⟨S31x1024, .i32⟩
  | 48 => ⟨S1024, .i32⟩
  | 49 => ⟨S512x128, .f32⟩
  | 50 => ⟨S512, .f32⟩
  | 51 => ⟨S512x128, .f32⟩
  | 52 => ⟨S512, .f32⟩
  | 53 => ⟨S_, .i32⟩
  | 54 => ⟨S65x1024x128, .f32⟩
  | 55 => ⟨S65x1024x128, .f32⟩
  | 56 => ⟨S31x1024x128, .f32⟩
  | 57 => ⟨S_, .i32⟩
  | 58 => ⟨S_, .i1⟩
  | 59 => ⟨S_, .i32⟩
  | 60 => ⟨S_, .i32⟩
  | 61 => ⟨S1x1024x128, .f32⟩
  | 62 => ⟨S1024x128, .f32⟩
  | 63 => ⟨S_, .i32⟩
  | 64 => ⟨S1x1024, .i32⟩
  | 65 => ⟨S1024, .i32⟩
  | 66 => ⟨S_, .i32⟩
  | 67 => ⟨S1x1024, .i32⟩
  | 68 => ⟨S1024, .i32⟩
  | 69 => ⟨S_, .i32⟩
  | 70 => ⟨S1x1024, .i32⟩
  | 71 => ⟨S1024, .i32⟩
  | 72 => ⟨S_, .i32⟩
  | 73 => ⟨S1024, .i32⟩
  | 74 => ⟨S1024, .i1⟩
  | 75 => ⟨S_, .i32⟩
  | 76 => ⟨S1024, .i32⟩
  | 77 => ⟨S1024, .i32⟩
  | 78 => ⟨S1024, .i32⟩
  | 79 => ⟨S_, .i32⟩
  | 80 => ⟨S1024, .i32⟩
  | 81 => ⟨S1024, .i1⟩
  | 82 => ⟨S_, .i32⟩
  | 83 => ⟨S1024, .i32⟩
  | 84 => ⟨S1024, .i32⟩
  | 85 => ⟨S1024, .i32⟩
  | 86 => ⟨S1024x1, .i32⟩
  | 87 => ⟨S1024x1, .i32⟩
  | 88 => ⟨S1024x2, .i32⟩
  | 89 => ⟨S1024x128, .f32⟩
  | 90 => ⟨S_, .i32⟩
  | 91 => ⟨S1024, .i32⟩
  | 92 => ⟨S1024, .i1⟩
  | 93 => ⟨S_, .i32⟩
  | 94 => ⟨S1024, .i32⟩
  | 95 => ⟨S1024, .i32⟩
  | 96 => ⟨S1024, .i32⟩
  | 97 => ⟨S_, .i32⟩
  | 98 => ⟨S1024, .i32⟩
  | 99 => ⟨S1024, .i1⟩
  | 100 => ⟨S_, .i32⟩
  | 101 => ⟨S1024, .i32⟩
  | 102 => ⟨S1024, .i32⟩
  | 103 => ⟨S1024, .i32⟩
  | 104 => ⟨S1024x1, .i32⟩
  | 105 => ⟨S1024x1, .i32⟩
  | 106 => ⟨S1024x2, .i32⟩
  | 107 => ⟨S1024x128, .f32⟩
  | 108 => ⟨S_, .i32⟩
  | 109 => ⟨S1024, .i32⟩
  | 110 => ⟨S1024, .i1⟩
  | 111 => ⟨S_, .i32⟩
  | 112 => ⟨S1024, .i32⟩
  | 113 => ⟨S1024, .i32⟩
  | 114 => ⟨S1024, .i32⟩
  | 115 => ⟨S_, .i32⟩
  | 116 => ⟨S1024, .i32⟩
  | 117 => ⟨S1024, .i1⟩
  | 118 => ⟨S_, .i32⟩
  | 119 => ⟨S1024, .i32⟩
  | 120 => ⟨S1024, .i32⟩
  | 121 => ⟨S1024, .i32⟩
  | 122 => ⟨S1024x1, .i32⟩
  | 123 => ⟨S1024x1, .i32⟩
  | 124 => ⟨S1024x2, .i32⟩
  | 125 => ⟨S1024x128, .f32⟩
  | 126 => ⟨S128x512, .f32⟩
  | 127 => ⟨S1024x512, .f32⟩
  | _ => ⟨S32x1024x128, .f32⟩

abbrev hbmTy0_1 (i : Nat) : BufTy := match i % 128 with
  | 0 => ⟨S1x512, .f32⟩
  | 1 => ⟨S1024x512, .f32⟩
  | 2 => ⟨S1024x512, .f32⟩
  | 3 => ⟨S128x512, .f32⟩
  | 4 => ⟨S1024x512, .f32⟩
  | 5 => ⟨S1024x512, .f32⟩
  | 6 => ⟨S1x512, .f32⟩
  | 7 => ⟨S1024x512, .f32⟩
  | 8 => ⟨S1024x512, .f32⟩
  | 9 => ⟨S1024x128, .f32⟩
  | 10 => ⟨S1024x128, .f32⟩
  | 11 => ⟨S1024x128, .f32⟩
  | 12 => ⟨S1024x128, .f32⟩
  | 13 => ⟨S1024x128, .f32⟩
  | 14 => ⟨S1024x128, .f32⟩
  | 15 => ⟨S_, .f32⟩
  | 16 => ⟨S1024x128, .f32⟩
  | 17 => ⟨S1024x128, .f32⟩
  | 18 => ⟨S_, .f32⟩
  | 19 => ⟨S1024x128, .f32⟩
  | 20 => ⟨S1024x128, .f32⟩
  | 21 => ⟨S1024x128, .f32⟩
  | 22 => ⟨S1024x128, .f32⟩
  | 23 => ⟨S_, .f32⟩
  | 24 => ⟨S1024x128, .f32⟩
  | 25 => ⟨S1024x128, .f32⟩
  | 26 => ⟨S_, .f32⟩
  | 27 => ⟨S1024x128, .f32⟩
  | 28 => ⟨S1024x128, .f32⟩
  | 29 => ⟨S1024x128, .f32⟩
  | 30 => ⟨S1024x128, .f32⟩
  | 31 => ⟨S1024x128, .f32⟩
  | 32 => ⟨S_, .f32⟩
  | 33 => ⟨S1024x128, .f32⟩
  | 34 => ⟨S1024x128, .f32⟩
  | 35 => ⟨S_, .f32⟩
  | 36 => ⟨S1024x128, .f32⟩
  | 37 => ⟨S1024x128, .f32⟩
  | 38 => ⟨S1024x128, .f32⟩
  | 39 => ⟨S1024x128, .f32⟩
  | 40 => ⟨S1024x128, .f32⟩
  | 41 => ⟨S1024x128, .f32⟩
  | 42 => ⟨S1024x128, .f32⟩
  | 43 => ⟨S_, .i32⟩
  | 44 => ⟨S1024, .i32⟩
  | 45 => ⟨S1024, .i32⟩
  | 46 => ⟨S_, .i32⟩
  | 47 => ⟨S1024, .i32⟩
  | 48 => ⟨S1024, .i1⟩
  | 49 => ⟨S_, .i32⟩
  | 50 => ⟨S1024, .i32⟩
  | 51 => ⟨S1024, .i32⟩
  | 52 => ⟨S1024, .i32⟩
  | 53 => ⟨S_, .i32⟩
  | 54 => ⟨S1024, .i32⟩
  | 55 => ⟨S1024, .i1⟩
  | 56 => ⟨S_, .i32⟩
  | 57 => ⟨S1024, .i32⟩
  | 58 => ⟨S1024, .i32⟩
  | 59 => ⟨S1024, .i32⟩
  | 60 => ⟨S1024x1, .i32⟩
  | 61 => ⟨S1024x1, .i32⟩
  | 62 => ⟨S1024x2, .i32⟩
  | 63 => ⟨S65x1024x128, .f32⟩
  | 64 => ⟨S_, .i32⟩
  | 65 => ⟨S1024, .i32⟩
  | 66 => ⟨S1024, .i32⟩
  | 67 => ⟨S_, .i32⟩
  | 68 => ⟨S1024, .i32⟩
  | 69 => ⟨S1024, .i1⟩
  | 70 => ⟨S_, .i32⟩
  | 71 => ⟨S1024, .i32⟩
  | 72 => ⟨S1024, .i32⟩
  | 73 => ⟨S1024, .i32⟩
  | 74 => ⟨S_, .i32⟩
  | 75 => ⟨S1024, .i32⟩
  | 76 => ⟨S1024, .i1⟩
  | 77 => ⟨S_, .i32⟩
  | 78 => ⟨S1024, .i32⟩
  | 79 => ⟨S1024, .i32⟩
  | 80 => ⟨S1024, .i32⟩
  | 81 => ⟨S1024x1, .i32⟩
  | 82 => ⟨S1024x1, .i32⟩
  | 83 => ⟨S1024x2, .i32⟩
  | 84 => ⟨S65x1024x128, .f32⟩
  | 85 => ⟨S1024, .f32⟩
  | 86 => ⟨S1024x1, .f32⟩
  | 87 => ⟨S1024x1, .f32⟩
  | 88 => ⟨S_, .f32⟩
  | 89 => ⟨S1024x1, .f32⟩
  | 90 => ⟨S1024x1, .f32⟩
  | 91 => ⟨S1024x128, .f32⟩
  | 92 => ⟨S1024x128, .f32⟩
  | 93 => ⟨S_, .f32⟩
  | 94 => ⟨S1024x1, .f32⟩
  | 95 => ⟨S1024x1, .f32⟩
  | 96 => ⟨S1024x128, .f32⟩
  | 97 => ⟨S1024x128, .f32⟩
  | 98 => ⟨S1024x128, .f32⟩
  | 99 => ⟨S1024x128, .f32⟩
  | 100 => ⟨S1024x128, .f32⟩
  | 101 => ⟨S_, .f32⟩
  | 102 => ⟨S1024x1, .f32⟩
  | 103 => ⟨S1024x1, .f32⟩
  | 104 => ⟨S1024x128, .f32⟩
  | 105 => ⟨S1024x128, .f32⟩
  | 106 => ⟨S1024x128, .f32⟩
  | 107 => ⟨S1x1024x128, .f32⟩
  | 108 => ⟨S_, .i32⟩
  | 109 => ⟨S_, .i32⟩
  | 110 => ⟨S31x1024x128, .f32⟩
  | 111 => ⟨S_, .i32⟩
  | 112 => ⟨S_, .i32⟩
  | _ => ⟨S32x1024x128, .f32⟩

abbrev hbmTy (i : Nat) : BufTy := match i / 128 with
  | 0 => hbmTy0_0 i
  | 1 => hbmTy0_1 i
  | _ => ⟨S32x1024x128, .f32⟩

abbrev bufTy : (tb : Table) → Fin (tcTables nBuf tb) → BufTy
  | .hbm, ⟨i, _⟩ => hbmTy i
  | _, _ => ⟨S32x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_call0_c : Ref sig .tc := ⟨.hbm, 8, rfl⟩
abbrev main_call0_call0_v0 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_cst_3 : Ref sig .tc := ⟨.hbm, 26, rfl⟩
abbrev main_v11 : Ref sig .tc := ⟨.hbm, 27, rfl⟩
abbrev main_v12 : Ref sig .tc := ⟨.hbm, 28, rfl⟩
abbrev main_c_4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_c_7 : Ref sig .tc := ⟨.hbm, 43, rfl⟩
abbrev main_v24_0 : Ref sig .tc := ⟨.hbm, 44, rfl⟩
abbrev main_v24_1 : Ref sig .tc := ⟨.hbm, 45, rfl⟩
abbrev main_v24_2 : Ref sig .tc := ⟨.hbm, 46, rfl⟩
abbrev main_v24_3 : Ref sig .tc := ⟨.hbm, 47, rfl⟩
abbrev main_v24_4 : Ref sig .tc := ⟨.hbm, 48, rfl⟩
abbrev main_v24_5 : Ref sig .tc := ⟨.hbm, 49, rfl⟩
abbrev main_v24_6 : Ref sig .tc := ⟨.hbm, 50, rfl⟩
abbrev main_v24_7 : Ref sig .tc := ⟨.hbm, 51, rfl⟩
abbrev main_v24_8 : Ref sig .tc := ⟨.hbm, 52, rfl⟩
abbrev main_v24_9 : Ref sig .tc := ⟨.hbm, 53, rfl⟩
abbrev main_v24_10 : Ref sig .tc := ⟨.hbm, 54, rfl⟩
abbrev main_v24_11 : Ref sig .tc := ⟨.hbm, 55, rfl⟩
abbrev main_v24_12 : Ref sig .tc := ⟨.hbm, 56, rfl⟩
abbrev main_while0c_c_20 : Ref sig .tc := ⟨.hbm, 57, rfl⟩
abbrev main_while0c_v25 : Ref sig .tc := ⟨.hbm, 58, rfl⟩
abbrev main_while0b_call1_c : Ref sig .tc := ⟨.hbm, 59, rfl⟩
abbrev main_while0b_call1_c_0 : Ref sig .tc := ⟨.hbm, 60, rfl⟩
abbrev main_while0b_call1_v0 : Ref sig .tc := ⟨.hbm, 61, rfl⟩
abbrev main_while0b_v25 : Ref sig .tc := ⟨.hbm, 62, rfl⟩
abbrev main_while0b_call2_c : Ref sig .tc := ⟨.hbm, 63, rfl⟩
abbrev main_while0b_call2_v0 : Ref sig .tc := ⟨.hbm, 64, rfl⟩
abbrev main_while0b_v26 : Ref sig .tc := ⟨.hbm, 65, rfl⟩
abbrev main_while0b_call3_c : Ref sig .tc := ⟨.hbm, 66, rfl⟩
abbrev main_while0b_call3_v0 : Ref sig .tc := ⟨.hbm, 67, rfl⟩
abbrev main_while0b_v27 : Ref sig .tc := ⟨.hbm, 68, rfl⟩
abbrev main_while0b_call4_c : Ref sig .tc := ⟨.hbm, 69, rfl⟩
abbrev main_while0b_call4_v0 : Ref sig .tc := ⟨.hbm, 70, rfl⟩
abbrev main_while0b_v28 : Ref sig .tc := ⟨.hbm, 71, rfl⟩
abbrev main_while0b_c_20 : Ref sig .tc := ⟨.hbm, 72, rfl⟩
abbrev main_while0b_v29 : Ref sig .tc := ⟨.hbm, 73, rfl⟩
abbrev main_while0b_v30 : Ref sig .tc := ⟨.hbm, 74, rfl⟩
abbrev main_while0b_c_21 : Ref sig .tc := ⟨.hbm, 75, rfl⟩
abbrev main_while0b_v31 : Ref sig .tc := ⟨.hbm, 76, rfl⟩
abbrev main_while0b_v32 : Ref sig .tc := ⟨.hbm, 77, rfl⟩
abbrev main_while0b_v33 : Ref sig .tc := ⟨.hbm, 78, rfl⟩
abbrev main_while0b_c_22 : Ref sig .tc := ⟨.hbm, 79, rfl⟩
abbrev main_while0b_v34 : Ref sig .tc := ⟨.hbm, 80, rfl⟩
abbrev main_while0b_v35 : Ref sig .tc := ⟨.hbm, 81, rfl⟩
abbrev main_while0b_c_23 : Ref sig .tc := ⟨.hbm, 82, rfl⟩
abbrev main_while0b_v36 : Ref sig .tc := ⟨.hbm, 83, rfl⟩
abbrev main_while0b_v37 : Ref sig .tc := ⟨.hbm, 84, rfl⟩
abbrev main_while0b_v38 : Ref sig .tc := ⟨.hbm, 85, rfl⟩
abbrev main_while0b_v39 : Ref sig .tc := ⟨.hbm, 86, rfl⟩
abbrev main_while0b_v40 : Ref sig .tc := ⟨.hbm, 87, rfl⟩
abbrev main_while0b_v41 : Ref sig .tc := ⟨.hbm, 88, rfl⟩
abbrev main_while0b_v42 : Ref sig .tc := ⟨.hbm, 89, rfl⟩
abbrev main_while0b_c_24 : Ref sig .tc := ⟨.hbm, 90, rfl⟩
abbrev main_while0b_v43 : Ref sig .tc := ⟨.hbm, 91, rfl⟩
abbrev main_while0b_v44 : Ref sig .tc := ⟨.hbm, 92, rfl⟩
abbrev main_while0b_c_25 : Ref sig .tc := ⟨.hbm, 93, rfl⟩
abbrev main_while0b_v45 : Ref sig .tc := ⟨.hbm, 94, rfl⟩
abbrev main_while0b_v46 : Ref sig .tc := ⟨.hbm, 95, rfl⟩
abbrev main_while0b_v47 : Ref sig .tc := ⟨.hbm, 96, rfl⟩
abbrev main_while0b_c_26 : Ref sig .tc := ⟨.hbm, 97, rfl⟩
abbrev main_while0b_v48 : Ref sig .tc := ⟨.hbm, 98, rfl⟩
abbrev main_while0b_v49 : Ref sig .tc := ⟨.hbm, 99, rfl⟩
abbrev main_while0b_c_27 : Ref sig .tc := ⟨.hbm, 100, rfl⟩
abbrev main_while0b_v50 : Ref sig .tc := ⟨.hbm, 101, rfl⟩
abbrev main_while0b_v51 : Ref sig .tc := ⟨.hbm, 102, rfl⟩
abbrev main_while0b_v52 : Ref sig .tc := ⟨.hbm, 103, rfl⟩
abbrev main_while0b_v53 : Ref sig .tc := ⟨.hbm, 104, rfl⟩
abbrev main_while0b_v54 : Ref sig .tc := ⟨.hbm, 105, rfl⟩
abbrev main_while0b_v55 : Ref sig .tc := ⟨.hbm, 106, rfl⟩
abbrev main_while0b_v56 : Ref sig .tc := ⟨.hbm, 107, rfl⟩
abbrev main_while0b_c_28 : Ref sig .tc := ⟨.hbm, 108, rfl⟩
abbrev main_while0b_v57 : Ref sig .tc := ⟨.hbm, 109, rfl⟩
abbrev main_while0b_v58 : Ref sig .tc := ⟨.hbm, 110, rfl⟩
abbrev main_while0b_c_29 : Ref sig .tc := ⟨.hbm, 111, rfl⟩
abbrev main_while0b_v59 : Ref sig .tc := ⟨.hbm, 112, rfl⟩
abbrev main_while0b_v60 : Ref sig .tc := ⟨.hbm, 113, rfl⟩
abbrev main_while0b_v61 : Ref sig .tc := ⟨.hbm, 114, rfl⟩
abbrev main_while0b_c_30 : Ref sig .tc := ⟨.hbm, 115, rfl⟩
abbrev main_while0b_v62 : Ref sig .tc := ⟨.hbm, 116, rfl⟩
abbrev main_while0b_v63 : Ref sig .tc := ⟨.hbm, 117, rfl⟩
abbrev main_while0b_c_31 : Ref sig .tc := ⟨.hbm, 118, rfl⟩
abbrev main_while0b_v64 : Ref sig .tc := ⟨.hbm, 119, rfl⟩
abbrev main_while0b_v65 : Ref sig .tc := ⟨.hbm, 120, rfl⟩
abbrev main_while0b_v66 : Ref sig .tc := ⟨.hbm, 121, rfl⟩
abbrev main_while0b_v67 : Ref sig .tc := ⟨.hbm, 122, rfl⟩
abbrev main_while0b_v68 : Ref sig .tc := ⟨.hbm, 123, rfl⟩
abbrev main_while0b_v69 : Ref sig .tc := ⟨.hbm, 124, rfl⟩
abbrev main_while0b_v70 : Ref sig .tc := ⟨.hbm, 125, rfl⟩
abbrev main_while0b_v71 : Ref sig .tc := ⟨.hbm, 126, rfl⟩
abbrev main_while0b_v72 : Ref sig .tc := ⟨.hbm, 127, rfl⟩
abbrev main_while0b_v73 : Ref sig .tc := ⟨.hbm, 128, rfl⟩
abbrev main_while0b_v74 : Ref sig .tc := ⟨.hbm, 129, rfl⟩
abbrev main_while0b_v75 : Ref sig .tc := ⟨.hbm, 130, rfl⟩
abbrev main_while0b_v76 : Ref sig .tc := ⟨.hbm, 131, rfl⟩
abbrev main_while0b_v77 : Ref sig .tc := ⟨.hbm, 132, rfl⟩
abbrev main_while0b_v78 : Ref sig .tc := ⟨.hbm, 133, rfl⟩
abbrev main_while0b_v79 : Ref sig .tc := ⟨.hbm, 134, rfl⟩
abbrev main_while0b_v80 : Ref sig .tc := ⟨.hbm, 135, rfl⟩
abbrev main_while0b_v81 : Ref sig .tc := ⟨.hbm, 136, rfl⟩
abbrev main_while0b_v82 : Ref sig .tc := ⟨.hbm, 137, rfl⟩
abbrev main_while0b_v83 : Ref sig .tc := ⟨.hbm, 138, rfl⟩
abbrev main_while0b_v84 : Ref sig .tc := ⟨.hbm, 139, rfl⟩
abbrev main_while0b_v85 : Ref sig .tc := ⟨.hbm, 140, rfl⟩
abbrev main_while0b_v86 : Ref sig .tc := ⟨.hbm, 141, rfl⟩
abbrev main_while0b_v87 : Ref sig .tc := ⟨.hbm, 142, rfl⟩
abbrev main_while0b_cst_32 : Ref sig .tc := ⟨.hbm, 143, rfl⟩
abbrev main_while0b_v88 : Ref sig .tc := ⟨.hbm, 144, rfl⟩
abbrev main_while0b_v89 : Ref sig .tc := ⟨.hbm, 145, rfl⟩
abbrev main_while0b_cst_33 : Ref sig .tc := ⟨.hbm, 146, rfl⟩
abbrev main_while0b_v90 : Ref sig .tc := ⟨.hbm, 147, rfl⟩
abbrev main_while0b_v91 : Ref sig .tc := ⟨.hbm, 148, rfl⟩
abbrev main_while0b_v92 : Ref sig .tc := ⟨.hbm, 149, rfl⟩
abbrev main_while0b_v93 : Ref sig .tc := ⟨.hbm, 150, rfl⟩
abbrev main_while0b_cst_34 : Ref sig .tc := ⟨.hbm, 151, rfl⟩
abbrev main_while0b_v94 : Ref sig .tc := ⟨.hbm, 152, rfl⟩
abbrev main_while0b_v95 : Ref sig .tc := ⟨.hbm, 153, rfl⟩
abbrev main_while0b_cst_35 : Ref sig .tc := ⟨.hbm, 154, rfl⟩
abbrev main_while0b_v96 : Ref sig .tc := ⟨.hbm, 155, rfl⟩
abbrev main_while0b_v97 : Ref sig .tc := ⟨.hbm, 156, rfl⟩
abbrev main_while0b_v98 : Ref sig .tc := ⟨.hbm, 157, rfl⟩
abbrev main_while0b_v99 : Ref sig .tc := ⟨.hbm, 158, rfl⟩
abbrev main_while0b_v100 : Ref sig .tc := ⟨.hbm, 159, rfl⟩
abbrev main_while0b_cst_36 : Ref sig .tc := ⟨.hbm, 160, rfl⟩
abbrev main_while0b_v101 : Ref sig .tc := ⟨.hbm, 161, rfl⟩
abbrev main_while0b_v102 : Ref sig .tc := ⟨.hbm, 162, rfl⟩
abbrev main_while0b_cst_37 : Ref sig .tc := ⟨.hbm, 163, rfl⟩
abbrev main_while0b_v103 : Ref sig .tc := ⟨.hbm, 164, rfl⟩
abbrev main_while0b_v104 : Ref sig .tc := ⟨.hbm, 165, rfl⟩
abbrev main_while0b_v105 : Ref sig .tc := ⟨.hbm, 166, rfl⟩
abbrev main_while0b_v106 : Ref sig .tc := ⟨.hbm, 167, rfl⟩
abbrev main_while0b_v107 : Ref sig .tc := ⟨.hbm, 168, rfl⟩
abbrev main_while0b_v108 : Ref sig .tc := ⟨.hbm, 169, rfl⟩
abbrev main_while0b_v109 : Ref sig .tc := ⟨.hbm, 170, rfl⟩
abbrev main_while0b_c_38 : Ref sig .tc := ⟨.hbm, 171, rfl⟩
abbrev main_while0b_v110 : Ref sig .tc := ⟨.hbm, 172, rfl⟩
abbrev main_while0b_v111 : Ref sig .tc := ⟨.hbm, 173, rfl⟩
abbrev main_while0b_c_39 : Ref sig .tc := ⟨.hbm, 174, rfl⟩
abbrev main_while0b_v112 : Ref sig .tc := ⟨.hbm, 175, rfl⟩
abbrev main_while0b_v113 : Ref sig .tc := ⟨.hbm, 176, rfl⟩
abbrev main_while0b_c_40 : Ref sig .tc := ⟨.hbm, 177, rfl⟩
abbrev main_while0b_v114 : Ref sig .tc := ⟨.hbm, 178, rfl⟩
abbrev main_while0b_v115 : Ref sig .tc := ⟨.hbm, 179, rfl⟩
abbrev main_while0b_v116 : Ref sig .tc := ⟨.hbm, 180, rfl⟩
abbrev main_while0b_c_41 : Ref sig .tc := ⟨.hbm, 181, rfl⟩
abbrev main_while0b_v117 : Ref sig .tc := ⟨.hbm, 182, rfl⟩
abbrev main_while0b_v118 : Ref sig .tc := ⟨.hbm, 183, rfl⟩
abbrev main_while0b_c_42 : Ref sig .tc := ⟨.hbm, 184, rfl⟩
abbrev main_while0b_v119 : Ref sig .tc := ⟨.hbm, 185, rfl⟩
abbrev main_while0b_v120 : Ref sig .tc := ⟨.hbm, 186, rfl⟩
abbrev main_while0b_v121 : Ref sig .tc := ⟨.hbm, 187, rfl⟩
abbrev main_while0b_v122 : Ref sig .tc := ⟨.hbm, 188, rfl⟩
abbrev main_while0b_v123 : Ref sig .tc := ⟨.hbm, 189, rfl⟩
abbrev main_while0b_v124 : Ref sig .tc := ⟨.hbm, 190, rfl⟩
abbrev main_while0b_v125 : Ref sig .tc := ⟨.hbm, 191, rfl⟩
abbrev main_while0b_c_43 : Ref sig .tc := ⟨.hbm, 192, rfl⟩
abbrev main_while0b_v126 : Ref sig .tc := ⟨.hbm, 193, rfl⟩
abbrev main_while0b_v127 : Ref sig .tc := ⟨.hbm, 194, rfl⟩
abbrev main_while0b_c_44 : Ref sig .tc := ⟨.hbm, 195, rfl⟩
abbrev main_while0b_v128 : Ref sig .tc := ⟨.hbm, 196, rfl⟩
abbrev main_while0b_v129 : Ref sig .tc := ⟨.hbm, 197, rfl⟩
abbrev main_while0b_c_45 : Ref sig .tc := ⟨.hbm, 198, rfl⟩
abbrev main_while0b_v130 : Ref sig .tc := ⟨.hbm, 199, rfl⟩
abbrev main_while0b_v131 : Ref sig .tc := ⟨.hbm, 200, rfl⟩
abbrev main_while0b_v132 : Ref sig .tc := ⟨.hbm, 201, rfl⟩
abbrev main_while0b_c_46 : Ref sig .tc := ⟨.hbm, 202, rfl⟩
abbrev main_while0b_v133 : Ref sig .tc := ⟨.hbm, 203, rfl⟩
abbrev main_while0b_v134 : Ref sig .tc := ⟨.hbm, 204, rfl⟩
abbrev main_while0b_c_47 : Ref sig .tc := ⟨.hbm, 205, rfl⟩
abbrev main_while0b_v135 : Ref sig .tc := ⟨.hbm, 206, rfl⟩
abbrev main_while0b_v136 : Ref sig .tc := ⟨.hbm, 207, rfl⟩
abbrev main_while0b_v137 : Ref sig .tc := ⟨.hbm, 208, rfl⟩
abbrev main_while0b_v138 : Ref sig .tc := ⟨.hbm, 209, rfl⟩
abbrev main_while0b_v139 : Ref sig .tc := ⟨.hbm, 210, rfl⟩
abbrev main_while0b_v140 : Ref sig .tc := ⟨.hbm, 211, rfl⟩
abbrev main_while0b_v141 : Ref sig .tc := ⟨.hbm, 212, rfl⟩
abbrev main_while0b_v142 : Ref sig .tc := ⟨.hbm, 213, rfl⟩
abbrev main_while0b_v143 : Ref sig .tc := ⟨.hbm, 214, rfl⟩
abbrev main_while0b_v144 : Ref sig .tc := ⟨.hbm, 215, rfl⟩
abbrev main_while0b_cst_48 : Ref sig .tc := ⟨.hbm, 216, rfl⟩
abbrev main_while0b_v145 : Ref sig .tc := ⟨.hbm, 217, rfl⟩
abbrev main_while0b_v146 : Ref sig .tc := ⟨.hbm, 218, rfl⟩
abbrev main_while0b_v147 : Ref sig .tc := ⟨.hbm, 219, rfl⟩
abbrev main_while0b_v148 : Ref sig .tc := ⟨.hbm, 220, rfl⟩
abbrev main_while0b_cst_49 : Ref sig .tc := ⟨.hbm, 221, rfl⟩
abbrev main_while0b_v149 : Ref sig .tc := ⟨.hbm, 222, rfl⟩
abbrev main_while0b_v150 : Ref sig .tc := ⟨.hbm, 223, rfl⟩
abbrev main_while0b_v151 : Ref sig .tc := ⟨.hbm, 224, rfl⟩
abbrev main_while0b_v152 : Ref sig .tc := ⟨.hbm, 225, rfl⟩
abbrev main_while0b_v153 : Ref sig .tc := ⟨.hbm, 226, rfl⟩
abbrev main_while0b_v154 : Ref sig .tc := ⟨.hbm, 227, rfl⟩
abbrev main_while0b_v155 : Ref sig .tc := ⟨.hbm, 228, rfl⟩
abbrev main_while0b_cst_50 : Ref sig .tc := ⟨.hbm, 229, rfl⟩
abbrev main_while0b_v156 : Ref sig .tc := ⟨.hbm, 230, rfl⟩
abbrev main_while0b_v157 : Ref sig .tc := ⟨.hbm, 231, rfl⟩
abbrev main_while0b_v158 : Ref sig .tc := ⟨.hbm, 232, rfl⟩
abbrev main_while0b_v159 : Ref sig .tc := ⟨.hbm, 233, rfl⟩
abbrev main_while0b_v160 : Ref sig .tc := ⟨.hbm, 234, rfl⟩
abbrev main_while0b_call5_v0 : Ref sig .tc := ⟨.hbm, 235, rfl⟩
abbrev main_while0b_call5_c : Ref sig .tc := ⟨.hbm, 236, rfl⟩
abbrev main_while0b_call5_c_0 : Ref sig .tc := ⟨.hbm, 237, rfl⟩
abbrev main_while0b_v161 : Ref sig .tc := ⟨.hbm, 238, rfl⟩
abbrev main_while0b_c_51 : Ref sig .tc := ⟨.hbm, 239, rfl⟩
abbrev main_while0b_v162 : Ref sig .tc := ⟨.hbm, 240, rfl⟩

abbrev nD : Nat := 1
abbrev τ : Topo := Topo.v7x

variable {F : FTy → Type} [FloatOps F]

abbrev main_while0_count : Scf.Loop 32 := ⟨0#32, 31#32, 1#32⟩
-- ==== Proof.Arith.lean ====
/- Facts about extended reals that the two programs' equality rests on: the logistic function as a hyperbolic tangent,
   and factors that are finite and not negative moved through sums. -/
module

public import Idealize.ShloMosaic.PureOps.Ideal
public import Mathlib.Analysis.SpecialFunctions.Trigonometric.DerivHyp

@[expose] public section

noncomputable section

namespace Cert.Proof.Arith

open Idealize.ShloMosaic
open scoped BigOperators

/-- One half, as an extended real. -/
def half : EReal := ((1 / 2 : ℝ) : EReal)

/-- Two, as an extended real. -/
def two : EReal := ((2 : ℝ) : EReal)

/-- The word `0x3F000000` denotes one half. -/
theorem ofBits_half : Ideal.ofBits .f32 0x3F000000#32 = half := by
  unfold half
  simp [Ideal.ofBits, Ideal.ieee, -EReal.coe_mul]
  norm_num

/-- The word `0x3F800000` denotes one. -/
theorem ofBits_one : Ideal.ofBits .f32 0x3F800000#32 = (1 : EReal) := by
  simp [Ideal.ofBits, Ideal.ieee, -EReal.coe_mul]
  norm_num

/-- The word of zeros denotes zero. -/
theorem ofBits_zero : Ideal.ofBits .f32 0x00000000#32 = (0 : EReal) := by
  simp [Ideal.ofBits, Ideal.ieee]

theorem half_nonneg : (0 : EReal) ≤ half := by
  unfold half; exact_mod_cast (by norm_num : (0 : ℝ) ≤ 1 / 2)

theorem half_ne_top : half ≠ ⊤ := EReal.coe_ne_top _

theorem one_add_one : (1 : EReal) + 1 = two := by
  unfold two; rw [← EReal.coe_one, ← EReal.coe_add]; norm_num

theorem half_mul_two : half * two = 1 := by
  unfold half two; exact_mod_cast (by norm_num : (1 / 2 : ℝ) * 2 = 1)

/-- Half of twice a number is the number. -/
theorem half_two_mul (x : EReal) : half * (two * x) = x := by
  rw [← mul_assoc, half_mul_two, one_mul]

/-- Half of a sum is the sum of the halves. -/
theorem half_add (x y : EReal) : half * (x + y) = half * x + half * y :=
  EReal.left_distrib_of_nonneg_of_ne_top half_nonneg half_ne_top x y

/-- A finite factor that is not negative moves out of a finite sum. -/
theorem sum_mul_of_nonneg {ι : Type*} (s : Finset ι) (f : ι → EReal) {a : EReal} (h0 : 0 ≤ a) (ht : a ≠ ⊤) :
    ∑ i ∈ s, f i * a = (∑ i ∈ s, f i) * a := by
  classical
  induction s using Finset.induction_on with
  | empty => simp
  | insert i s hi ih =>
    rw [Finset.sum_insert hi, Finset.sum_insert hi, ih, EReal.right_distrib_of_nonneg_of_ne_top h0 ht]

/-- The hyperbolic tangent of half a real, plus one, is twice its logistic value. -/
theorem real_tanh_half (r : ℝ) : Real.tanh (1 / 2 * r) + 1 = 2 * (1 + Real.exp (-r))⁻¹ := by
  rw [Real.tanh_eq_sinh_div_cosh, Real.sinh_eq, Real.cosh_eq]
  have h1 : Real.exp (-r) = Real.exp (-(1 / 2 * r)) * Real.exp (-(1 / 2 * r)) := by
    rw [← Real.exp_add]; ring_nf
  have h2 : Real.exp (1 / 2 * r) * Real.exp (-(1 / 2 * r)) = 1 := by
    rw [← Real.exp_add]; simp
  rw [h1]
  have ha := Real.exp_pos (1 / 2 * r)
  have hb := Real.exp_pos (-(1 / 2 * r))
  generalize Real.exp (1 / 2 * r) = a at *
  generalize Real.exp (-(1 / 2 * r)) = b at *
  have h3 : a + b ≠ 0 := by positivity
  have h4 : 1 + b * b ≠ 0 := by positivity
  field_simp
  linear_combination (2 * b) * h2

/-- The hyperbolic tangent of half an extended real, plus one, is twice its logistic value. -/
theorem tanh_half (x : EReal) : Ideal.tanh (x * half) + 1 = two * Ideal.logistic x := by
  induction x with
  | bot =>
    have : (⊥ : EReal) * half = ⊥ := EReal.bot_mul_coe_of_pos (by norm_num)
    rw [this, Ideal.tanh_bot, Ideal.logistic_bot, mul_zero]
    rw [← EReal.coe_one, ← EReal.coe_neg, ← EReal.coe_add]; norm_num
  | top =>
    have : (⊤ : EReal) * half = ⊤ := EReal.top_mul_coe_of_pos (by norm_num)
    rw [this, Ideal.tanh_top, Ideal.logistic_top, mul_one, one_add_one]
  | coe r =>
    unfold half two
    rw [← EReal.coe_mul, Ideal.tanh_coe, Ideal.logistic_coe, mul_comm r, ← EReal.coe_mul, ← real_tanh_half]
    norm_cast

/-- The kernel's cell value, half of `c (2 f) + g (2 i)`, is `f c + i g`. -/
theorem cell_eq (c f g i : EReal) : half * (c * (two * f) + g * (two * i)) = f * c + i * g := by
  rw [half_add, mul_left_comm c, mul_left_comm g, half_two_mul, half_two_mul, mul_comm c, mul_comm g]

end Cert.Proof.Arith

end
-- ==== Proof.Model.lean ====
/- The stack machine with pushes only, as plain mathematics over the extended reals: one batch row's hidden and cell
   entries at the pointer after each operation, and the outputs. -/
module

public import proofs.«01_k».proof.Proof.Arith
public import Idealize.ShloMosaic.Lib.ValueIdx

@[expose] public section

noncomputable section

namespace Cert.Proof.Model

open Idealize.ShloMosaic Idealize.ShloMosaic.ValueIdx Cert.Proof.Arith
open scoped BigOperators

/-- The eight argument arrays. -/
structure Args where
  x : FVec Ideal ⟨3, ![32, 1024, 128]⟩ .f32
  ops : IVec ⟨2, ![32, 1024]⟩ 32
  wih : FVec Ideal ⟨2, ![512, 128]⟩ .f32
  whh : FVec Ideal ⟨2, ![512, 128]⟩ .f32
  bih : FVec Ideal ⟨1, ![512]⟩ .f32
  bhh : FVec Ideal ⟨1, ![512]⟩ .f32
  h0 : FVec Ideal ⟨1, ![128]⟩ .f32
  c0 : FVec Ideal ⟨1, ![128]⟩ .f32

/-- Column `o + d` of the gates. -/
def col (o : Nat) (ho : o ≤ 384) (d : Fin 128) : Fin 512 := ⟨o + d.val, by omega⟩

variable (A : Args)

/-- The operation word of step `n` for batch row `b`. -/
def op (n : Nat) (b : Fin 1024) : BitVec 32 := A.ops (ix2 (Fin.ofNat 32 n) b)

/-- The input's share of gate `q` at step `n`. -/
def xgate (n : Nat) (b : Fin 1024) (q : Fin 512) : EReal :=
  ∑ k : Fin 128, A.x (ix3 (Fin.ofNat 32 n) b k) * A.wih (ix2 q k)

/-- The hidden state's share of gate `q`. -/
def hgate (h : Fin 128 → EReal) (q : Fin 512) : EReal := ∑ k : Fin 128, h k * A.whh (ix2 q k)

/-- Gate `q` at step `n` from the hidden entry `h`. -/
def gate (n : Nat) (b : Fin 1024) (h : Fin 128 → EReal) (q : Fin 512) : EReal :=
  xgate A n b q + A.bih (ix1 q) + hgate A h q + A.bhh (ix1 q)

/-- The new cell entry from gates `g` and the cell entry `c`. -/
def nextC (g : Fin 512 → EReal) (c : Fin 128 → EReal) (d : Fin 128) : EReal :=
  Ideal.logistic (g (col 128 (by omega) d)) * c d + Ideal.logistic (g (col 0 (by omega) d)) * Ideal.tanh (g (col 256 (by omega) d))

/-- The new hidden entry from gates `g` and the cell entry `c`. -/
def nextH (g : Fin 512 → EReal) (c : Fin 128 → EReal) (d : Fin 128) : EReal :=
  Ideal.logistic (g (col 384 (by omega) d)) * Ideal.tanh (nextC g c d)

/-- The hidden and the cell entry at the pointer of batch row `b`, after operation `n`. -/
def st : Nat → Fin 1024 → (Fin 128 → EReal) × (Fin 128 → EReal)
  | 0, b => if op A 0 b = 0#32 then (fun d => A.h0 (ix1 d), fun d => A.c0 (ix1 d)) else (fun _ => 0, fun _ => 0)
  | n + 1, b => if op A (n + 1) b = 0#32 then st n b
      else (nextH (gate A n b (st n b).1) (st n b).2, nextC (gate A n b (st n b).1) (st n b).2)

/-- The hidden entry. -/
def H (n : Nat) (b : Fin 1024) : Fin 128 → EReal := (st A n b).1

/-- The cell entry. -/
def C (n : Nat) (b : Fin 1024) : Fin 128 → EReal := (st A n b).2

/-- The hidden entry that step `n` computes. -/
def newH (n : Nat) (b : Fin 1024) : Fin 128 → EReal := nextH (gate A n b (H A n b)) (C A n b)

/-- The cell entry that step `n` computes. -/
def newC (n : Nat) (b : Fin 1024) : Fin 128 → EReal := nextC (gate A n b (H A n b)) (C A n b)

/-- The output of step `n`: twice the new hidden entry after a push, else the entry at the pointer. -/
def out (n : Nat) (b : Fin 1024) (d : Fin 128) : EReal :=
  if op A (n + 1) b = 0#32 then H A n b d else two * newH A n b d

theorem H_zero (b : Fin 1024) (d : Fin 128) : H A 0 b d = if op A 0 b = 0#32 then A.h0 (ix1 d) else 0 := by
  unfold H st; split <;> rfl

theorem C_zero (b : Fin 1024) (d : Fin 128) : C A 0 b d = if op A 0 b = 0#32 then A.c0 (ix1 d) else 0 := by
  unfold C st; split <;> rfl

theorem H_succ (n : Nat) (b : Fin 1024) (d : Fin 128) :
    H A (n + 1) b d = if op A (n + 1) b = 0#32 then H A n b d else newH A n b d := by
  unfold newH H C; rw [st]; split <;> rfl

theorem C_succ (n : Nat) (b : Fin 1024) (d : Fin 128) :
    C A (n + 1) b d = if op A (n + 1) b = 0#32 then C A n b d else newC A n b d := by
  unfold newC H C; rw [st]; split <;> rfl

end Cert.Proof.Model

end
-- ==== Proof.KernelHost.lean ====
/- What the host operations before the kernel leave in the arrays that the kernel's windows read: the scaled transposed
   weights, the augmented recurrent weights, and the initial entries. -/
module

public import proofs.«01_k».proof.Proof.Gen.KernelIdeal.Value
public import proofs.«01_k».proof.Proof.Model
public import Idealize.ShloMosaic.Lib.StableHlo.Run
public import Idealize.ShloMosaic.Lib.StableHlo.RunRead
public import Idealize.ShloMosaic.Lib.Routing.Ops
public import Idealize.ShloMosaic.Lib.Pipeline.Value
public import Idealize.ShloMosaic.Lib.ValueLayout
public import Idealize.ShloMosaic.Lib.Routing.OpsSet
public import Idealize.ShloMosaic.Lib.Routing.OpsOne

@[expose] public section

noncomputable section

namespace Cert.Proof.KernelHost

open Idealize.ShloMosaic Idealize.ShloMosaic.TcCoe Idealize.ShloMosaic.ValueIdx
open Idealize.SL Idealize.SL.Sem
open Cert.KernelIdeal Cert.KernelIdeal.Gen Cert.Proof.Arith
open scoped BigOperators

/-- The four gates' scales, one vector of 512. -/
def scaleVec : FVec Ideal S512 .f32 :=
  concatenate S512 0
    [⟨S128, broadcastInDim S128 ![] bcast_S_S128 (constant S_ .f32 0x3F000000#32)⟩,
     ⟨S128, broadcastInDim S128 ![] bcast_S_S128 (constant S_ .f32 0x3F000000#32)⟩,
     ⟨S128, broadcastInDim S128 ![] bcast_S_S128 (constant S_ .f32 0x3F800000#32)⟩,
     ⟨S128, broadcastInDim S128 ![] bcast_S_S128 (constant S_ .f32 0x3F000000#32)⟩]
    concatenates_S128_S128_S128_S128_S512_d0

/-- A weight matrix transposed, its columns scaled. -/
def wT (w : FVec Ideal S512x128 .f32) : FVec Ideal S128x512 .f32 :=
  mulf (transpose S128x512 [1, 0] w transposes_S512x128_S128x512_1_0)
    (broadcastInDim S128x512 ![0, 1] bcast_S1x512_S128x512_0_1 (broadcastInDim S1x512 ![1] bcast_S512_S1x512_1 scaleVec))

/-- The recurrent weights in rows 0 to 127, the biases in row 128. -/
def aug (w : FVec Ideal S512x128 .f32) (b1 b2 : FVec Ideal S512 .f32) : FVec Ideal S256x512 .f32 :=
  Host.scatter scatter_S256x512_S1_S512_0_0_0_0 (fun _ b => b)
    (Host.scatter scatter_S256x512_S1_S128x512_01_n_0_0 (fun _ b => b)
      (broadcastInDim S256x512 ![] bcast_S_S256x512 (constant S_ .f32 0x00000000#32))
      (broadcastInDim S1 ![] bcast_S_S1 (constantI S_ 32 0#32)) (wT w))
    (broadcastInDim S1 ![] bcast_S_S1 (constantI S_ 32 128#32)) (mulf (addf b1 b2) scaleVec)

variable (m : (ℓ : Loc nD τ sig) → Buf (Elt Ideal) ℓ)

set_option maxRecDepth 65536 in
set_option maxHeartbeats 1000000 in
theorem V_v8 (c : Dev nD) : V m c main_v8 = wT (m ((c : Thread nD τ).loc main_arg2)) := by
  after_reads_simp
  rfl

set_option maxRecDepth 65536 in
set_option maxHeartbeats 1000000 in
theorem V_v19 (c : Dev nD) : V m c main_v19
    = aug (m ((c : Thread nD τ).loc main_arg3)) (m ((c : Thread nD τ).loc main_arg4)) (m ((c : Thread nD τ).loc main_arg5)) := by
  after_reads_simp
  have e : ∀ h, concatenate (α := Ideal .f32) S512 0
      [⟨S128, StableHlo.upto (hostOps0 (F := Ideal)) (fun b => m (c, b)) 8 (Proc.devRef .tc ((![main_v0, main_v1, main_v2, main_v3] : Fin 4 → Ref sig .tc) 0))⟩,
       ⟨S128, StableHlo.upto (hostOps0 (F := Ideal)) (fun b => m (c, b)) 8 (Proc.devRef .tc ((![main_v0, main_v1, main_v2, main_v3] : Fin 4 → Ref sig .tc) 1))⟩,
       ⟨S128, StableHlo.upto (hostOps0 (F := Ideal)) (fun b => m (c, b)) 8 (Proc.devRef .tc ((![main_v0, main_v1, main_v2, main_v3] : Fin 4 → Ref sig .tc) 2))⟩,
       ⟨S128, StableHlo.upto (hostOps0 (F := Ideal)) (fun b => m (c, b)) 8 (Proc.devRef .tc ((![main_v0, main_v1, main_v2, main_v3] : Fin 4 → Ref sig .tc) 3))⟩]
      h = scaleVec := fun _ => rfl
  unfold aug wT
  simp only [e]

set_option maxRecDepth 65536 in
set_option maxHeartbeats 1000000 in
theorem V_v20 (c : Dev nD) : V m c main_v20 = shapeCast S1x128 (m ((c : Thread nD τ).loc main_arg6)) shapeCasts_S128_S1x128 := by
  after_reads_simp
  rfl

set_option maxRecDepth 65536 in
set_option maxHeartbeats 1000000 in
theorem V_v21 (c : Dev nD) : V m c main_v21 = shapeCast S1x128 (m ((c : Thread nD τ).loc main_arg7)) shapeCasts_S128_S1x128 := by
  after_reads_simp
  rfl

/-! ## The entries -/

/-- The scale of gate column `q`: one for the cell candidate's columns, else one half. -/
def scale (q : Fin 512) : EReal := if 256 ≤ q.val ∧ q.val < 384 then 1 else half

theorem scaleVec_apply (q : Fin 512) : scaleVec (ix1 q) = scale q := by
  unfold scaleVec scale
  have piece : ∀ (k : Nat) (w : BitVec 32) (hk : k < 4) (h : _)
      (e : ([⟨S128, broadcastInDim S128 ![] bcast_S_S128 (constant S_ .f32 0x3F000000#32)⟩,
     ⟨S128, broadcastInDim S128 ![] bcast_S_S128 (constant S_ .f32 0x3F000000#32)⟩,
     ⟨S128, broadcastInDim S128 ![] bcast_S_S128 (constant S_ .f32 0x3F800000#32)⟩,
     ⟨S128, broadcastInDim S128 ![] bcast_S_S128 (constant S_ .f32 0x3F000000#32)⟩] : List ((s : Shape) × (s.Idx → Ideal .f32)))[k]'hk
        = ⟨S128, broadcastInDim S128 ![] bcast_S_S128 (constant S_ .f32 w)⟩)
      (hpre : (((([⟨S128, broadcastInDim S128 ![] bcast_S_S128 (constant S_ .f32 0x3F000000#32)⟩,
     ⟨S128, broadcastInDim S128 ![] bcast_S_S128 (constant S_ .f32 0x3F000000#32)⟩,
     ⟨S128, broadcastInDim S128 ![] bcast_S_S128 (constant S_ .f32 0x3F800000#32)⟩,
     ⟨S128, broadcastInDim S128 ![] bcast_S_S128 (constant S_ .f32 0x3F000000#32)⟩] : List ((s : Shape) × (s.Idx → Ideal .f32))).take k).map (·.1)).map
          fun s : Shape => if h : s.rank = S512.rank then s.size ((0 : Fin S512.rank).cast h.symm) else 0).sum = 128 * k)
      (hl : 128 * k ≤ q.val) (hu : q.val < 128 * k + 128),
      concatenate S512 0 [⟨S128, broadcastInDim S128 ![] bcast_S_S128 (constant S_ .f32 0x3F000000#32)⟩,
     ⟨S128, broadcastInDim S128 ![] bcast_S_S128 (constant S_ .f32 0x3F000000#32)⟩,
     ⟨S128, broadcastInDim S128 ![] bcast_S_S128 (constant S_ .f32 0x3F800000#32)⟩,
     ⟨S128, broadcastInDim S128 ![] bcast_S_S128 (constant S_ .f32 0x3F000000#32)⟩] h (ix1 q) = Ideal.ofBits .f32 w := by
    intro k w hk h e hpre hl hu
    rw [concatenate_apply_piece (0 : Fin S512.rank) _ h (ix1 q) k hk S128 _ e rfl (128 * k) hpre
      (ix1 ⟨q.val - 128 * k, by omega⟩)
      (fun b hb => absurd (Subsingleton.elim (α := Fin 1) _ _) hb)
      (by show 128 * k + (q.val - 128 * k) = q.val; omega)]
    rfl
  have hq := q.isLt
  by_cases h0 : q.val < 128
  · rw [piece 0 _ (by omega) _ rfl rfl (by omega) (by omega), ofBits_half, if_neg (by omega)]
  by_cases h1 : q.val < 256
  · rw [piece 1 _ (by omega) _ rfl rfl (by omega) (by omega), ofBits_half, if_neg (by omega)]
  by_cases h2 : q.val < 384
  · rw [piece 2 _ (by omega) _ rfl rfl (by omega) (by omega), ofBits_one, if_pos (by omega)]
  · rw [piece 3 _ (by omega) _ rfl rfl (by omega) (by omega), ofBits_half, if_neg (by omega)]

/-- Entry `(k, q)` of the scaled transposed weights. -/
theorem wT_apply (w : FVec Ideal S512x128 .f32) (k : Fin 128) (q : Fin 512) : wT w (ix2 k q) = w (ix2 q k) * scale q := by
  unfold wT
  rw [mulf_apply]
  congr 1
  · exact transpose_ix2_apply w _ k q
  · exact (Routing.bcCols bcast_S512_S1x512_1 bcast_S1x512_S128x512_0_1 scaleVec k q).trans (scaleVec_apply q)

theorem window_rows (r : Fin 128) (q : Fin 512) : scatter_S256x512_S1_S128x512_01_n_0_0.window (ix2 r q) 0 = r.val
    ∧ scatter_S256x512_S1_S128x512_01_n_0_0.window (ix2 r q) 1 = q.val := ⟨rfl, rfl⟩

theorem start_rows (r : Fin 128) (q : Fin 512) (idx : IVec S1 32) (v : Int) (hv : ∀ j, (idx j).toInt = v) :
    scatter_S256x512_S1_S128x512_01_n_0_0.start (ix2 r q) idx 0 = v
    ∧ scatter_S256x512_S1_S128x512_01_n_0_0.start (ix2 r q) idx 1 = 0 := by
  constructor
  · unfold ScatterDims.start; rw [dif_pos (by decide)]; exact hv _
  · unfold ScatterDims.start; rw [dif_neg (by decide)]

theorem window_row (q : Fin 512) : scatter_S256x512_S1_S512_0_0_0_0.window (ix1 q) 0 = 0
    ∧ scatter_S256x512_S1_S512_0_0_0_0.window (ix1 q) 1 = q.val := ⟨rfl, rfl⟩

theorem start_row (q : Fin 512) (idx : IVec S1 32) (v : Int) (hv : ∀ j, (idx j).toInt = v) :
    scatter_S256x512_S1_S512_0_0_0_0.start (ix1 q) idx 0 = v
    ∧ scatter_S256x512_S1_S512_0_0_0_0.start (ix1 q) idx 1 = 0 := by
  constructor
  · unfold ScatterDims.start; rw [dif_pos (by decide)]; exact hv _
  · unfold ScatterDims.start; rw [dif_neg (by decide)]

/-- Where update `(r, q)` of the weights lands. -/
theorem lands_rows (idx : IVec S1 32) (hv : ∀ j, (idx j).toInt = 0) (k : S128x512.Idx) (r : Fin 256) (q : Fin 512) :
    scatter_S256x512_S1_S128x512_01_n_0_0.resultIdx? k idx = some (ix2 r q) ↔ (k 0).val = r.val ∧ (k 1).val = q.val := by
  obtain ⟨a, b, rfl⟩ : ∃ a b, k = ix2 a b := ⟨k 0, k 1, eq_ix2 k⟩
  rw [Routing.resultIdx?_ix2, (window_rows a b).1, (window_rows a b).2, (start_rows a b idx 0 hv).1, (start_rows a b idx 0 hv).2]
  show _ ↔ a.val = r.val ∧ b.val = q.val
  omega

/-- Where update `q` of the biases lands. -/
theorem lands_row (idx : IVec S1 32) (hv : ∀ j, (idx j).toInt = 128) (k : S512.Idx) (r : Fin 256) (q : Fin 512) :
    scatter_S256x512_S1_S512_0_0_0_0.resultIdx? k idx = some (ix2 r q) ↔ r.val = 128 ∧ (k 0).val = q.val := by
  obtain ⟨b, rfl⟩ : ∃ b, k = ix1 b := ⟨k 0, eq_ix1 k⟩
  rw [Routing.resultIdx?_ix2, (window_row b).1, (window_row b).2, (start_row b idx 128 hv).1, (start_row b idx 128 hv).2]
  show _ ↔ r.val = 128 ∧ b.val = q.val
  omega

/-- Rows below 128 of the augmented weights are the scaled transposed recurrent weights. -/
theorem aug_low (w : FVec Ideal S512x128 .f32) (b1 b2 : FVec Ideal S512 .f32) (k : Fin 128) (q : Fin 512) :
    aug w b1 b2 (ix2 (⟨k.val, by omega⟩ : Fin 256) q) = w (ix2 q k) * scale q := by
  unfold aug
  rw [Routing.scatter_set_miss _ _ _ _ _ fun j hj => by
    have := ((lands_row _ (fun _ => rfl) j _ q).1 hj).1
    have hk := k.isLt
    simp only at this
    omega]
  refine (Routing.scatter_set_hit _ _ _ _ _ (wT w (ix2 k q)) (fun j hj => ?_) (ix2 k q)
    ((lands_rows _ (fun _ => rfl) _ _ q).2 ⟨rfl, rfl⟩)).trans (wT_apply w k q)
  have h := (lands_rows _ (fun _ => rfl) j _ q).1 hj
  rw [eq_ix2 j]
  exact congrArg₂ (fun a b => wT w (ix2 a b)) (Fin.ext h.1) (Fin.ext h.2)

/-- Row 128 of the augmented weights is the scaled sum of the biases. -/
theorem aug_bias (w : FVec Ideal S512x128 .f32) (b1 b2 : FVec Ideal S512 .f32) (q : Fin 512) :
    aug w b1 b2 (ix2 (128 : Fin 256) q) = (b1 (ix1 q) + b2 (ix1 q)) * scale q := by
  unfold aug
  refine (Routing.scatter_set_hit _ _ _ _ _ ((mulf (addf b1 b2) scaleVec : FVec Ideal S512 .f32) (ix1 q)) (fun j hj => ?_) (ix1 q)
    ((lands_row _ (fun _ => rfl) _ _ q).2 ⟨rfl, rfl⟩)).trans ?_
  · have h := (lands_row _ (fun _ => rfl) j _ q).1 hj
    rw [eq_ix1 j]
    exact congrArg (fun b => (mulf (addf b1 b2) scaleVec : FVec Ideal S512 .f32) (ix1 b)) (Fin.ext h.2)
  · rw [mulf_apply, addf_apply, scaleVec_apply]

/-- Rows above 128 of the augmented weights are zero. -/
theorem aug_high (w : FVec Ideal S512x128 .f32) (b1 b2 : FVec Ideal S512 .f32) (r : Fin 256) (hr : 128 < r.val) (q : Fin 512) :
    aug w b1 b2 (ix2 r q) = 0 := by
  unfold aug
  rw [Routing.scatter_set_miss _ _ _ _ _ fun j hj => by
    have := ((lands_row _ (fun _ => rfl) j _ q).1 hj).1
    omega]
  rw [Routing.scatter_set_miss _ _ _ _ _ fun j hj => by
    have := ((lands_rows _ (fun _ => rfl) j _ q).1 hj).1
    have hj := idx2_lt0 j
    omega]
  exact ofBits_zero

end Cert.Proof.KernelHost

end
-- ==== Proof.KernelStep.lean ====
/- What one grid point computes: the output block and the three scratch arrays that it leaves, as terms of the kernel's
   operations over its input blocks and the scratch arrays that the point before left. -/
module

public import proofs.«01_k».proof.Proof.KernelHost
public import Idealize.ShloMosaic.Lib.Tactic
public import Idealize.ShloMosaic.Lib.WritesUnit
public import Idealize.ShloMosaic.Lib.Pipeline.FrameBody
public import Idealize.ShloMosaic.Lib.Pipeline.ValueKit.Tiles

@[expose] public section

noncomputable section

namespace Cert.Proof.KernelStep

open Idealize.ShloMosaic Idealize.ShloMosaic.TcCoe Idealize.ShloMosaic.ValueIdx Idealize.ShloMosaic.Tactic
open Idealize.SL Idealize.SL.Sem
open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- Two arrays side by side: columns 0 to 127 and columns 128 to 255. -/
def join (l r : Vec Ideal S1024x128 .f32) : Vec Ideal S1024x256 .f32 := fun y =>
  if h : (y 1).val < 128 then l (ix2 (y 0) (⟨(y 1).val, h⟩ : Fin 128))
  else r (ix2 (y 0) (⟨(y 1).val - 128, by have := idx2_lt1 y; omega⟩ : Fin 128))

theorem join_left (l r : Vec Ideal S1024x128 .f32) (b : Fin 1024) (k : Fin 128) :
    join l r (ix2 b (⟨k.val, by omega⟩ : Fin 256)) = l (ix2 b k) := dif_pos k.isLt

theorem join_right (l r : Vec Ideal S1024x128 .f32) (b : Fin 1024) (k : Fin 128) :
    join l r (ix2 b (⟨128 + k.val, by omega⟩ : Fin 256)) = r (ix2 b k) := by
  refine (dif_neg (Nat.not_lt.2 (Nat.le_add_right 128 k.val))).trans ?_
  exact congrArg (fun t => r (ix2 b t)) (Fin.ext (Nat.add_sub_cancel_left 128 k.val))

/-- The row of operations that the point uses. -/
def opRow (i : grid0.Coords) (x0 : Vec Ideal S32x1024 .i32) : Vec Ideal S1x1024 .i32 :=
  View.ld x0 (Rect.unit (s := S32x1024) (k0_off1 i) S1x1024.size (k0_off1_inb i))

/-- The first row of operations. -/
def opRow0 (x0 : Vec Ideal S32x1024 .i32) : Vec Ideal S1x1024 .i32 :=
  View.ld x0 (Rect.unit (s := S32x1024) ![0, 0] S1x1024.size inb_S32x1024_S1x1024_0_0)

/-- The output block of a point. -/
def outOf (i : grid0.Coords) (x0 : Vec Ideal S32x1024 .i32) (x4 : Vec Ideal S256x512 .f32) (h cc : Vec Ideal S1024x128 .f32)
    (xw : Vec Ideal S1024x512 .f32) : Vec Ideal S1x1024x128 .f32 :=
  k0_pay2 h (k0_pay13 cc xw (join h (k0_pay8 (F := Ideal))) x4) (k0_pay14 (opRow i x0)) k0_pay15

/-- The hidden entries that a point leaves. -/
def hOf (i : grid0.Coords) (x0 : Vec Ideal S32x1024 .i32) (x4 : Vec Ideal S256x512 .f32) (h cc : Vec Ideal S1024x128 .f32)
    (xw : Vec Ideal S1024x512 .f32) : Vec Ideal S1024x128 .f32 :=
  k0_pay3 h (k0_pay13 cc xw (join h (k0_pay8 (F := Ideal))) x4) (k0_pay14 (opRow i x0)) k0_pay15

/-- The cell entries that a point leaves. -/
def cOf (i : grid0.Coords) (x0 : Vec Ideal S32x1024 .i32) (x4 : Vec Ideal S256x512 .f32) (h cc : Vec Ideal S1024x128 .f32)
    (xw : Vec Ideal S1024x512 .f32) : Vec Ideal S1024x128 .f32 :=
  k0_pay4 cc (k0_pay12 cc xw (join h (k0_pay8 (F := Ideal))) x4) (k0_pay14 (opRow i x0)) k0_pay15

/-! ## Loads and stores of the two halves -/

theorem ld_join (l r : Vec Ideal S1024x128 .f32) (inb : _) :
    View.ld (join l r) (Rect.unit (s := S1024x256) ![0, 0] S1024x128.size inb) = l := by
  funext y
  have h1 := idx2_lt1 y
  rw [View.ld_unit_apply_of (join l r) _ _ inb y (ix2 (y 0) (⟨(y 1).val, by omega⟩ : Fin 256))
    (fun a => by match a with | ⟨0, _⟩ => exact (Nat.zero_add _).symm | ⟨1, _⟩ => exact (Nat.zero_add _).symm)]
  exact (join_left l r (y 0) (y 1)).trans (congrArg l (eq_ix2 y).symm)

section Halves

variable {sp : Space} (v : View sig .tc sp S1024x256 .f32) (f : v.ty.Contents (Elt Ideal)) (l r : Vec Ideal S1024x128 .f32)
  (inb0 : ∀ a, (![0, 0] : Fin 2 → Nat) a + S1024x128.size a ≤ S1024x256.size a)
  (inb1 : ∀ a, (![0, 128] : Fin 2 → Nat) a + S1024x128.size a ≤ S1024x256.size a)
  (L : List (View.Piece (Elt Ideal) S1024x256 .f32))

theorem read_left (y : S1024x256.Idx) (hy : (y 1).val < 128) :
    v.read (Elt Ideal) (v.writes (Elt Ideal) f (⟨Rect.unit (s := S1024x256) ![0, 0] S1024x128.size inb0, l⟩ :: L)) y
      = l (ix2 (y 0) (⟨(y 1).val, hy⟩ : Fin 128)) :=
  View.read_writes_cons_unit_of_mem v f inb0 l L y (ix2 (y 0) (⟨(y 1).val, hy⟩ : Fin 128)) rfl
    (fun a => by match a with | ⟨0, _⟩ => exact (Nat.zero_add _).symm | ⟨1, _⟩ => exact (Nat.zero_add _).symm)

theorem read_off_left (y : S1024x256.Idx) (hy : ¬ (y 1).val < 128) :
    v.read (Elt Ideal) (v.writes (Elt Ideal) f (⟨Rect.unit (s := S1024x256) ![0, 0] S1024x128.size inb0, l⟩ :: L)) y
      = v.read (Elt Ideal) (v.writes (Elt Ideal) f L) y :=
  View.read_writes_cons_unit_of_not_mem v f inb0 l L y rfl 1 (Or.inr (by show 0 + 128 ≤ (y 1).val; omega))

theorem read_right (y : S1024x256.Idx) (hy : ¬ (y 1).val < 128) :
    v.read (Elt Ideal) (v.writes (Elt Ideal) f (⟨Rect.unit (s := S1024x256) ![0, 128] S1024x128.size inb1, r⟩ :: L)) y
      = r (ix2 (y 0) (⟨(y 1).val - 128, by have := idx2_lt1 y; omega⟩ : Fin 128)) :=
  View.read_writes_cons_unit_of_mem v f inb1 r L y _ rfl
    (fun a => by
      match a with
      | ⟨0, _⟩ => exact (Nat.zero_add _).symm
      | ⟨1, _⟩ => show (y 1).val = 128 + ((y 1).val - 128); omega)

theorem read_off_right (y : S1024x256.Idx) (hy : (y 1).val < 128) :
    v.read (Elt Ideal) (v.writes (Elt Ideal) f (⟨Rect.unit (s := S1024x256) ![0, 128] S1024x128.size inb1, r⟩ :: L)) y
      = v.read (Elt Ideal) (v.writes (Elt Ideal) f L) y :=
  View.read_writes_cons_unit_of_not_mem v f inb1 r L y rfl 1 (Or.inl hy)

/-- The right half stored after the left one. -/
theorem read_two : v.read (Elt Ideal) (v.writes (Elt Ideal) f
    [⟨Rect.unit (s := S1024x256) ![0, 128] S1024x128.size inb1, r⟩, ⟨Rect.unit (s := S1024x256) ![0, 0] S1024x128.size inb0, l⟩])
      = join l r := by
  funext y
  unfold join
  split
  · rename_i h; rw [read_off_right v f r inb1 _ y h, read_left v f l inb0 _ y h]
  · rename_i h; rw [read_right v f r inb1 _ y h]

/-- The left half stored over two halves. -/
theorem read_three (l' : Vec Ideal S1024x128 .f32) : v.read (Elt Ideal) (v.writes (Elt Ideal) f
    [⟨Rect.unit (s := S1024x256) ![0, 0] S1024x128.size inb0, l'⟩, ⟨Rect.unit (s := S1024x256) ![0, 128] S1024x128.size inb1, r⟩,
     ⟨Rect.unit (s := S1024x256) ![0, 0] S1024x128.size inb0, l⟩]) = join l' r := by
  funext y
  unfold join
  split
  · rename_i h; rw [read_left v f l' inb0 _ y h]
  · rename_i h; rw [read_off_left v f l' inb0 _ y h, read_right v f r inb1 _ y h]

/-- The left half stored over a whole array. -/
theorem read_one (hf : v.read (Elt Ideal) f = join l r) (l' : Vec Ideal S1024x128 .f32) :
    v.read (Elt Ideal) (v.writes (Elt Ideal) f [⟨Rect.unit (s := S1024x256) ![0, 0] S1024x128.size inb0, l'⟩]) = join l' r := by
  funext y
  by_cases h : (y 1).val < 128
  · rw [read_left v f l' inb0 _ y h]; unfold join; rw [dif_pos h]
  · rw [read_off_left v f l' inb0 _ y h, View.writes_nil, hf]; unfold join; rw [dif_neg h, dif_neg h]

/-- A load of the left half after the two stores. -/
theorem cov_left : v.readCov
    [⟨Rect.unit (s := S1024x256) ![0, 128] S1024x128.size inb1, r⟩, ⟨Rect.unit (s := S1024x256) ![0, 0] S1024x128.size inb0, l⟩]
    (Rect.unit (s := S1024x256) ![0, 0] S1024x128.size inb0).toLoadRect = l := by
  refine Eq.trans ?_ (ld_join l r inb0)
  rw [← read_two v v.junk l r inb0 inb1]
  rfl

/-- A load of the whole array after the two stores. -/
theorem cov_whole (inb : ∀ a, (![0, 0] : Fin 2 → Nat) a + S1024x256.size a ≤ S1024x256.size a) : v.readCov
    [⟨Rect.unit (s := S1024x256) ![0, 128] S1024x128.size inb1, r⟩, ⟨Rect.unit (s := S1024x256) ![0, 0] S1024x128.size inb0, l⟩]
    (Rect.unit (s := S1024x256) ![0, 0] S1024x256.size inb).toLoadRect = join l r := by
  refine Eq.trans ?_ (View.ld_unit_zero (S := S1024x256) hz2 inb (join l r))
  rw [← read_two v v.junk l r inb0 inb1]
  rfl

end Halves

section Cases

variable (c : Dev nD) (i : grid0.Coords) (arg1 : Memref sig .tc .vmem S32x1024 .i32) (harg1 : arg1.IsWhole) (arg2 : Memref sig .tc .vmem S1x1024x128 .f32) (harg2 : arg2.IsWhole) (arg3 : Memref sig .tc .vmem S1x1024x128 .f32) (harg3 : arg3.IsWhole) (arg4 : Memref sig .tc .vmem S128x512 .f32) (harg4 : arg4.IsWhole) (arg5 : Memref sig .tc .vmem S256x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024x128 .f32) (harg8 : arg8.IsWhole) (arg9 : Memref sig .tc .vmem S1024x256 .f32) (harg9 : arg9.IsWhole) (arg10 : Memref sig .tc .vmem S1024x128 .f32) (harg10 : arg10.IsWhole) (arg11 : Memref sig .tc .vmem S1024x512 .f32) (harg11 : arg11.IsWhole)
  (x0 : Vec Ideal S32x1024 .i32) (x1 : Vec Ideal S1x1024x128 .f32) (x2 : Vec Ideal S1x1024x128 .f32) (x3 : Vec Ideal S128x512 .f32) (x4 : Vec Ideal S256x512 .f32) (x5 : Vec Ideal S1x128 .f32) (x6 : Vec Ideal S1x128 .f32) (h : Vec Ideal S1024x128 .f32) (xs1 : Vec Ideal S1024x128 .f32) (xs2 : Vec Ideal S1024x512 .f32)

set_option maxHeartbeats 1000000 in
/-- The output block of the first point. -/
theorem out0_A_7_eq (hc0 : cond0_0 i) : out0_A_7 c i arg1 harg1 arg2 harg2 arg3 harg3 arg4 harg4 arg5 harg5 arg6 harg6 arg7 harg7 arg8 harg8 arg9 harg9 arg10 harg10 arg11 harg11 hc0 x0 x1 x2 x3 x4 x5 x6 = outOf i x0 x4 (k0_pay7 (opRow0 x0) x5) (k0_pay9 (opRow0 x0) x6) (k0_pay10 x1 x3) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_cons_unit_zero (S := S1x1024x128) hz3]
  rw [cov_left, cov_whole]
  simp only [View.readAt_eq_ld, harg1.read_unread, harg2.read_unread, harg3.read_unread, harg4.read_unread, harg5.read_unread, harg6.read_unread, harg7.read_unread,
    View.readCov_unit_zero (S := S1024x128) _ hz2, View.readCov_unit_zero (S := S1024x512) _ hz2,
    View.ld_unit_zero (S := S1x1024x128) hz3, View.ld_unit_zero (S := S1x128) hz2, View.ld_unit_zero (S := S128x512) hz2, View.ld_unit_zero (S := S256x512) hz2]
  rfl

set_option maxHeartbeats 1000000 in
/-- The hidden entries of the first point. -/
theorem sout0_A_0_eq (hc0 : cond0_0 i) : sout0_A_0 c i arg1 harg1 arg2 harg2 arg3 harg3 arg4 harg4 arg5 harg5 arg6 harg6 arg7 harg7 arg8 harg8 arg9 harg9 arg10 harg10 arg11 harg11 hc0 x0 x1 x2 x3 x4 x5 x6 = join (hOf i x0 x4 (k0_pay7 (opRow0 x0) x5) (k0_pay9 (opRow0 x0) x6) (k0_pay10 x1 x3)) (k0_pay8 (F := Ideal)) := by
  unfold sout0_A_0
  unfold kernelRun0_A
  dsimp only
  sl_unfold_words
  refine (read_three _ _ _ _ _ _ _).trans ?_
  rw [cov_left, cov_whole]
  simp only [View.readAt_eq_ld, harg1.read_unread, harg2.read_unread, harg3.read_unread, harg4.read_unread, harg5.read_unread, harg6.read_unread, harg7.read_unread,
    View.readCov_unit_zero (S := S1024x128) _ hz2, View.readCov_unit_zero (S := S1024x512) _ hz2,
    View.ld_unit_zero (S := S1x1024x128) hz3, View.ld_unit_zero (S := S1x128) hz2, View.ld_unit_zero (S := S128x512) hz2, View.ld_unit_zero (S := S256x512) hz2]
  rfl

set_option maxHeartbeats 1000000 in
/-- The cell entries of the first point. -/
theorem sout0_A_1_eq (hc0 : cond0_0 i) : sout0_A_1 c i arg1 harg1 arg2 harg2 arg3 harg3 arg4 harg4 arg5 harg5 arg6 harg6 arg7 harg7 arg8 harg8 arg9 harg9 arg10 harg10 arg11 harg11 hc0 x0 x1 x2 x3 x4 x5 x6 = cOf i x0 x4 (k0_pay7 (opRow0 x0) x5) (k0_pay9 (opRow0 x0) x6) (k0_pay10 x1 x3) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_cons_unit_zero (S := S1024x128) hz2]
  rw [cov_whole]
  simp only [View.readAt_eq_ld, harg1.read_unread, harg2.read_unread, harg3.read_unread, harg4.read_unread, harg5.read_unread, harg6.read_unread, harg7.read_unread,
    View.readCov_unit_zero (S := S1024x128) _ hz2, View.readCov_unit_zero (S := S1024x512) _ hz2,
    View.ld_unit_zero (S := S1x1024x128) hz3, View.ld_unit_zero (S := S1x128) hz2, View.ld_unit_zero (S := S128x512) hz2, View.ld_unit_zero (S := S256x512) hz2]
  rfl

set_option maxHeartbeats 1000000 in
/-- The next step's products of the first point. -/
theorem sout0_A_2_eq (hc0 : cond0_0 i) : sout0_A_2 c i arg1 harg1 arg2 harg2 arg3 harg3 arg4 harg4 arg5 harg5 arg6 harg6 arg7 harg7 arg8 harg8 arg9 harg9 arg10 harg10 arg11 harg11 hc0 x0 x1 x2 x3 x4 x5 x6 = k0_pay5 x2 x3 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_cons_unit_zero (S := S1024x512) hz2]
  simp only [View.readAt_eq_ld, harg1.read_unread, harg2.read_unread, harg3.read_unread, harg4.read_unread, harg5.read_unread, harg6.read_unread, harg7.read_unread,
    View.readCov_unit_zero (S := S1024x128) _ hz2, View.readCov_unit_zero (S := S1024x512) _ hz2,
    View.ld_unit_zero (S := S1x1024x128) hz3, View.ld_unit_zero (S := S1x128) hz2, View.ld_unit_zero (S := S128x512) hz2, View.ld_unit_zero (S := S256x512) hz2]

set_option maxHeartbeats 1000000 in
/-- The output block of a later point. -/
theorem out0_B_7_eq (hc0 : ¬cond0_0 i) : out0_B_7 c i arg1 harg1 arg2 harg2 arg3 harg3 arg4 harg4 arg5 harg5 arg6 harg6 arg7 harg7 arg8 harg8 arg9 harg9 arg10 harg10 arg11 harg11 hc0 x0 x1 x2 x3 x4 x5 x6 (join h (k0_pay8 (F := Ideal))) xs1 xs2 = outOf i x0 x4 h xs1 xs2 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 x0 x1 x2 x3 x4 x5 x6 (join h (k0_pay8 (F := Ideal))) xs1 xs2)]
  unfold kernelRun0_B
  dsimp only
  sl_unfold_words
  rw [View.canon_cons_unit_zero (S := S1x1024x128) hz3]
  simp only [View.readAt_eq_ld, harg1.read_unread, harg3.read_unread, harg4.read_unread, harg5.read_unread, harg9.read_unread, harg10.read_unread, harg11.read_unread,
    View.ld_unit_zero (S := S1x1024x128) hz3, View.ld_unit_zero (S := S1024x128) hz2, View.ld_unit_zero (S := S1024x512) hz2, View.ld_unit_zero (S := S1024x256) hz2,
    View.ld_unit_zero (S := S128x512) hz2, View.ld_unit_zero (S := S256x512) hz2]
  rw [ld_join]
  rfl

set_option maxHeartbeats 1000000 in
/-- The hidden entries of a later point. -/
theorem sout0_B_0_eq (hc0 : ¬cond0_0 i) : sout0_B_0 c i arg1 harg1 arg2 harg2 arg3 harg3 arg4 harg4 arg5 harg5 arg6 harg6 arg7 harg7 arg8 harg8 arg9 harg9 arg10 harg10 arg11 harg11 hc0 x0 x1 x2 x3 x4 x5 x6 (join h (k0_pay8 (F := Ideal))) xs1 xs2 = join (hOf i x0 x4 h xs1 xs2) (k0_pay8 (F := Ideal)) := by
  unfold sout0_B_0
  unfold kernelRun0_B
  dsimp only
  sl_unfold_words
  refine (read_one _ _ h (k0_pay8 (F := Ideal)) _ (harg9.read_unread _) _).trans ?_
  simp only [View.readAt_eq_ld, harg1.read_unread, harg3.read_unread, harg4.read_unread, harg5.read_unread, harg9.read_unread, harg10.read_unread, harg11.read_unread,
    View.ld_unit_zero (S := S1x1024x128) hz3, View.ld_unit_zero (S := S1024x128) hz2, View.ld_unit_zero (S := S1024x512) hz2, View.ld_unit_zero (S := S1024x256) hz2,
    View.ld_unit_zero (S := S128x512) hz2, View.ld_unit_zero (S := S256x512) hz2]
  rw [ld_join]
  rfl

set_option maxHeartbeats 1000000 in
/-- The cell entries of a later point. -/
theorem sout0_B_1_eq (hc0 : ¬cond0_0 i) : sout0_B_1 c i arg1 harg1 arg2 harg2 arg3 harg3 arg4 harg4 arg5 harg5 arg6 harg6 arg7 harg7 arg8 harg8 arg9 harg9 arg10 harg10 arg11 harg11 hc0 x0 x1 x2 x3 x4 x5 x6 (join h (k0_pay8 (F := Ideal))) xs1 xs2 = cOf i x0 x4 h xs1 xs2 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 x0 x1 x2 x3 x4 x5 x6 (join h (k0_pay8 (F := Ideal))) xs1 xs2)]
  unfold kernelRun0_B
  dsimp only
  sl_unfold_words
  rw [View.canon_cons_unit_zero (S := S1024x128) hz2]
  simp only [View.readAt_eq_ld, harg1.read_unread, harg3.read_unread, harg4.read_unread, harg5.read_unread, harg9.read_unread, harg10.read_unread, harg11.read_unread,
    View.ld_unit_zero (S := S1x1024x128) hz3, View.ld_unit_zero (S := S1024x128) hz2, View.ld_unit_zero (S := S1024x512) hz2, View.ld_unit_zero (S := S1024x256) hz2,
    View.ld_unit_zero (S := S128x512) hz2, View.ld_unit_zero (S := S256x512) hz2]
  rfl

set_option maxHeartbeats 1000000 in
/-- The next step's products of a later point. -/
theorem sout0_B_2_eq (hc0 : ¬cond0_0 i) : sout0_B_2 c i arg1 harg1 arg2 harg2 arg3 harg3 arg4 harg4 arg5 harg5 arg6 harg6 arg7 harg7 arg8 harg8 arg9 harg9 arg10 harg10 arg11 harg11 hc0 x0 x1 x2 x3 x4 x5 x6 (join h (k0_pay8 (F := Ideal))) xs1 xs2 = k0_pay5 x2 x3 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 hc0 x0 x1 x2 x3 x4 x5 x6 (join h (k0_pay8 (F := Ideal))) xs1 xs2)]
  unfold kernelRun0_B
  dsimp only
  sl_unfold_words
  rw [View.canon_cons_unit_zero (S := S1024x512) hz2]
  simp only [View.readAt_eq_ld, harg1.read_unread, harg3.read_unread, harg4.read_unread, harg5.read_unread, harg9.read_unread, harg10.read_unread, harg11.read_unread,
    View.ld_unit_zero (S := S1x1024x128) hz3, View.ld_unit_zero (S := S1024x128) hz2, View.ld_unit_zero (S := S1024x512) hz2, View.ld_unit_zero (S := S1024x256) hz2,
    View.ld_unit_zero (S := S128x512) hz2, View.ld_unit_zero (S := S256x512) hz2]

end Cases

end Cert.Proof.KernelStep

end
-- ==== Proof.KernelPay.lean ====
/- The kernel's block computations read at one entry: the gates times their scales, the new cell and hidden entries, and
   the choices between the new and the old entries. -/
module

public import proofs.«01_k».proof.Proof.KernelStep
public import Idealize.ShloMosaic.Lib.MatmulPlain
public import Idealize.ShloMosaic.Lib.WordCmp

@[expose] public section

noncomputable section

namespace Cert.Proof.KernelPay

open Idealize.ShloMosaic Idealize.ShloMosaic.TcCoe Idealize.ShloMosaic.ValueIdx
open Idealize.SL Idealize.SL.Sem
open Cert.KernelIdeal Cert.KernelIdeal.Gen Cert.Proof.Arith Cert.Proof.KernelHost Cert.Proof.KernelStep Cert.Proof.Model
open scoped BigOperators

/-! ## Choices by the operation word -/

/-- A choice by the bit of `x ≠ 0`. -/
theorem select_ne_zero {α : Type} (x : BitVec 32) (a b : α) :
    Scalar.select (IntOp.cmpi .ne x 0#32) a b = if x = 0#32 then b else a := by
  rw [WordCmp.cmpi_ne_eq]
  by_cases h : x = 0#32
  · rw [if_pos h, decide_eq_false (not_not.2 h)]; rfl
  · rw [if_neg h, decide_eq_true h]; rfl

/-- A choice by the bit of `x = 0`. -/
theorem select_eq_zero {α : Type} (x : BitVec 32) (a b : α) :
    Scalar.select (IntOp.cmpi .eq x 0#32) a b = if x = 0#32 then a else b := by
  rw [WordCmp.cmpi_eq_eq]
  by_cases h : x = 0#32
  · rw [if_pos h, decide_eq_true h]; rfl
  · rw [if_neg h, decide_eq_false h]; rfl

/-- A column broadcast over many columns reads its entry in the row. -/
theorem colBroadcast_apply {α : Type} (x : S1024x1.Idx → α) (b : Fin 1024) (d : Fin 128) :
    broadcastTo S1024x128 x broadcasts_S1024x1_S1024x128 (ix2 b d) = x (ix2 b (0 : Fin 1)) :=
  broadcastTo_apply x _ (ix2 b d) (ix2 b (0 : Fin 1)) fun a => by
    match a with
    | ⟨0, _⟩ => rfl
    | ⟨1, _⟩ => rfl

/-- A row of words turned into a column. -/
theorem pay14_apply (v : Vec Ideal S1x1024 .i32) (b : Fin 1024) :
    k0_pay14 (F := Ideal) v (ix2 b (0 : Fin 1)) = v (ix2 (0 : Fin 1) b) := by
  unfold k0_pay14
  refine (shapeCast_apply _ _ (ix2 b (0 : Fin 1)) (ix1 b) ?_).trans (shapeCast_1a_a_apply v _ b)
  rw [Shape.rowMajor_val_two, Shape.rowMajor_val_one]
  show b.val = b.val * 1 + 0
  omega

/-- The choice made by a row of operation words. -/
theorem select_push {α : Type} (v : Vec Ideal S1x1024 .i32) (x y : S1024x128.Idx → α) (b : Fin 1024) (d : Fin 128) :
    select (broadcastTo S1024x128 (shapeCast S1024x1 (k0_pay1 (k0_pay14 (F := Ideal) v) k0_pay15) shapeCasts_S1024x1_S1024x1)
      broadcasts_S1024x1_S1024x128) x y (ix2 b d)
      = if v (ix2 (0 : Fin 1) b) = 0#32 then y (ix2 b d) else x (ix2 b d) := by
  rw [select_apply, colBroadcast_apply, shapeCast_self]
  show Scalar.select (IntOp.cmpi .ne (k0_pay14 (F := Ideal) v (ix2 b (0 : Fin 1))) 0#32) _ _ = _
  rw [pay14_apply, select_ne_zero]

/-- The choice of the initial entries. -/
theorem select_push0 {α : Type} (v : Vec Ideal S1x1024 .i32) (x y : S1024x128.Idx → α) (b : Fin 1024) (d : Fin 128) :
    select (broadcastTo S1024x128 (shapeCast S1024x1 (k0_pay6 (F := Ideal) v) shapeCasts_S1024x1_S1024x1)
      broadcasts_S1024x1_S1024x128) x y (ix2 b d)
      = if v (ix2 (0 : Fin 1) b) = 0#32 then y (ix2 b d) else x (ix2 b d) :=
  select_push v x y b d

/-- The output block: the value `y` after a push, else the entry at the pointer. -/
theorem pay2_apply (h y : Vec Ideal S1024x128 .f32) (v : Vec Ideal S1x1024 .i32) (b : Fin 1024) (d : Fin 128) (u : Fin 1) :
    k0_pay2 h y (k0_pay14 (F := Ideal) v) k0_pay15 (ix3 u b d)
      = if v (ix2 (0 : Fin 1) b) = 0#32 then h (ix2 b d) else y (ix2 b d) := by
  unfold k0_pay2
  exact (shapeCast_ab_1ab_apply _ _ u b d).trans (select_push v _ _ b d)

/-- The hidden entries left: half of `y` after a push, else the old ones. -/
theorem pay3_apply (h y : Vec Ideal S1024x128 .f32) (v : Vec Ideal S1x1024 .i32) (b : Fin 1024) (d : Fin 128) :
    k0_pay3 h y (k0_pay14 (F := Ideal) v) k0_pay15 (ix2 b d)
      = if v (ix2 (0 : Fin 1) b) = 0#32 then h (ix2 b d) else half * y (ix2 b d) := by
  unfold k0_pay3
  refine (congrFun (shapeCast_self _ _) (ix2 b d)).trans ((select_push v _ _ b d).trans ?_)
  rw [mulf_apply, broadcast_apply]
  show (if _ then _ else Ideal.ofBits .f32 0x3F000000#32 * _) = _
  rw [ofBits_half]

/-- The cell entries left: `y` after a push, else the old ones. -/
theorem pay4_apply (c y : Vec Ideal S1024x128 .f32) (v : Vec Ideal S1x1024 .i32) (b : Fin 1024) (d : Fin 128) :
    k0_pay4 c y (k0_pay14 (F := Ideal) v) k0_pay15 (ix2 b d)
      = if v (ix2 (0 : Fin 1) b) = 0#32 then c (ix2 b d) else y (ix2 b d) := by
  unfold k0_pay4
  exact (congrFun (shapeCast_self _ _) (ix2 b d)).trans (select_push v _ _ b d)

/-- The initial hidden entries: the given vector where the first operation is no push, else zero. -/
theorem pay7_apply (v : Vec Ideal S1x1024 .i32) (w : Vec Ideal S1x128 .f32) (b : Fin 1024) (d : Fin 128) :
    k0_pay7 v w (ix2 b d) = if v (ix2 (0 : Fin 1) b) = 0#32 then w (ix2 (0 : Fin 1) d) else 0 := by
  unfold k0_pay7
  refine (congrFun (shapeCast_self _ _) (ix2 b d)).trans ((select_push0 v _ _ b d).trans ?_)
  rw [broadcast_apply, broadcastTo_1b_ab_apply, shapeCast_self, shapeCast_a_1a_apply, shapeCast_1a_a_apply]
  show (if _ then _ else Ideal.ofBits .f32 0x00000000#32) = _
  rw [ofBits_zero]

/-- The initial cell entries. -/
theorem pay9_apply (v : Vec Ideal S1x1024 .i32) (w : Vec Ideal S1x128 .f32) (b : Fin 1024) (d : Fin 128) :
    k0_pay9 v w (ix2 b d) = if v (ix2 (0 : Fin 1) b) = 0#32 then w (ix2 (0 : Fin 1) d) else 0 :=
  pay7_apply v w b d

/-- The columns beside the hidden entries: one in the first of them, zero in the others. -/
theorem pay8_apply (b : Fin 1024) (k : Fin 128) : k0_pay8 (F := Ideal) (ix2 b k) = if k.val = 0 then 1 else 0 := by
  unfold k0_pay8
  refine (congrFun (shapeCast_self _ _) (ix2 b k)).trans ?_
  rw [select_apply]
  have e : cmpi .eq (iota .tc S1024x128 32 [1] iota_S1024x128_d1_w32) (broadcast S1024x128 0#32) (ix2 b k)
      = IntOp.cmpi .eq (BitVec.ofNat 32 k.val) 0#32 := by
    show IntOp.cmpi .eq (BitVec.ofNat 32 (0 * 128 + k.val)) 0#32 = _
    rw [Nat.zero_mul, Nat.zero_add]
  rw [e, select_eq_zero]
  have e2 : BitVec.ofNat 32 k.val = 0#32 ↔ k.val = 0 := by
    constructor
    · intro hk
      have := congrArg BitVec.toNat hk
      rw [BitVec.toNat_ofNat, Nat.mod_eq_of_lt (by have := k.isLt; omega)] at this
      exact this
    · intro hk; rw [hk]
  rw [broadcast_apply, broadcast_apply]
  show (if _ then Ideal.ofBits .f32 0x3F800000#32 else Ideal.ofBits .f32 0x00000000#32) = _
  rw [ofBits_one, ofBits_zero]
  exact if_congr e2 rfl rfl

/-! ## The gates -/

theorem scale_nonneg (q : Fin 512) : (0 : EReal) ≤ scale q := by
  unfold scale; split
  · exact zero_le_one
  · exact half_nonneg

theorem scale_ne_top (q : Fin 512) : scale q ≠ ⊤ := by
  unfold scale; split
  · exact EReal.coe_ne_top 1
  · exact half_ne_top

/-- The product of one step's inputs and the scaled weights. -/
theorem pay10_apply (x : Vec Ideal S1x1024x128 .f32) (w : FVec Ideal S512x128 .f32) (b : Fin 1024) (q : Fin 512) :
    k0_pay10 x (wT w) (ix2 b q) = (∑ k : Fin 128, x (ix3 (0 : Fin 1) b k) * w (ix2 q k)) * scale q := by
  unfold k0_pay10
  refine (congrFun (shapeCast_self _ _) (ix2 b q)).trans ?_
  refine (Ideal.matmul_plain_apply none _ _ _ b q).trans ?_
  rw [constant_apply]
  show Ideal.ofBits .f32 0x00000000#32 + _ = _
  rw [ofBits_zero, zero_add, ← sum_mul_of_nonneg _ _ (scale_nonneg q) (scale_ne_top q)]
  refine Finset.sum_congr rfl fun k _ => ?_
  rw [shapeCast_1ab_ab_apply, shapeCast_self, wT_apply, mul_assoc]

theorem pay5_apply (x : Vec Ideal S1x1024x128 .f32) (w : FVec Ideal S512x128 .f32) (b : Fin 1024) (q : Fin 512) :
    k0_pay5 x (wT w) (ix2 b q) = (∑ k : Fin 128, x (ix3 (0 : Fin 1) b k) * w (ix2 q k)) * scale q :=
  pay10_apply x w b q

/-- A sum over 256 positions, cut in the middle. -/
theorem sum_halves (f : Fin 256 → EReal) :
    ∑ k : Fin 256, f k = (∑ k : Fin 128, f ⟨k.val, by omega⟩) + ∑ k : Fin 128, f ⟨128 + k.val, by omega⟩ :=
  Fin.sum_univ_add (a := 128) (b := 128) f

variable (A : Args)

/-- The gates that a point forms are the gates of the step, each times its scale. -/
theorem pay11_apply (xw : Vec Ideal S1024x512 .f32) (h : Vec Ideal S1024x128 .f32) (xg : Fin 512 → EReal) (b : Fin 1024)
    (hx : ∀ q, xw (ix2 b q) = xg q * scale q) (q : Fin 512) :
    k0_pay11 xw (join h (k0_pay8 (F := Ideal))) (aug A.whh A.bih A.bhh) (ix2 b q)
      = (xg q + A.bih (ix1 q) + hgate A (fun k => h (ix2 b k)) q + A.bhh (ix1 q)) * scale q := by
  unfold k0_pay11
  rw [addf_apply, hx q]
  have e : matmul (φ₁ := .f32) (φ₂ := .f32) dot_S1024x256_S256x512_S1024x512_1_0_0_1_n_n none (join h (k0_pay8 (F := Ideal)))
      (shapeCast S256x512 (aug A.whh A.bih A.bhh) shapeCasts_S256x512_S256x512) (constant S1024x512 .f32 0x00000000#32) (ix2 b q)
      = hgate A (fun k => h (ix2 b k)) q * scale q + (A.bih (ix1 q) + A.bhh (ix1 q)) * scale q := by
    refine (Ideal.matmul_plain_apply none _ _ _ b q).trans ?_
    rw [constant_apply]
    show Ideal.ofBits .f32 0x00000000#32 + _ = _
    rw [ofBits_zero, zero_add, shapeCast_self, sum_halves]
    congr 1
    · unfold hgate
      rw [← sum_mul_of_nonneg _ _ (scale_nonneg q) (scale_ne_top q)]
      refine Finset.sum_congr rfl fun k _ => ?_
      rw [join_left, aug_low, mul_assoc]
    · rw [Finset.sum_eq_single (0 : Fin 128)]
      · rw [join_right, pay8_apply, if_pos (show ((0 : Fin 128) : ℕ) = 0 from rfl), one_mul]
        exact aug_bias A.whh A.bih A.bhh q
      · intro k _ hk
        rw [join_right, pay8_apply, if_neg (fun h0 : k.val = 0 => hk (Fin.ext h0)), zero_mul]
      · intro h0; exact absurd (Finset.mem_univ _) h0
  refine (congrArg (xg q * scale q + ·) e).trans ?_
  show xg q * scale q + (_ + _) = _
  rw [EReal.right_distrib_of_nonneg_of_ne_top (scale_nonneg q) (scale_ne_top q),
    EReal.right_distrib_of_nonneg_of_ne_top (scale_nonneg q) (scale_ne_top q),
    EReal.right_distrib_of_nonneg_of_ne_top (scale_nonneg q) (scale_ne_top q),
    EReal.right_distrib_of_nonneg_of_ne_top (scale_nonneg q) (scale_ne_top q)]
  generalize xg q * scale q = p1
  generalize hgate A (fun k => h (ix2 b k)) q * scale q = p2
  generalize A.bih (ix1 q) * scale q = p3
  generalize A.bhh (ix1 q) * scale q = p4
  rw [add_assoc p1 p3 p2, add_comm p3 p2, add_assoc, add_assoc]

theorem scale_col (o : Nat) (ho : o ≤ 384) (d : Fin 128) (h : o + 128 ≤ 256 ∨ 384 ≤ o) : scale (col o ho d) = half := by
  unfold scale col
  exact if_neg (by show ¬ (256 ≤ o + d.val ∧ o + d.val < 384); have := d.isLt; omega)

theorem scale_col256 (d : Fin 128) : scale (col 256 (by omega) d) = 1 := by
  unfold scale col
  exact if_pos (by show 256 ≤ 256 + d.val ∧ 256 + d.val < 384; have := d.isLt; omega)

/-- The new cell entry of a point. -/
theorem pay12_apply (cc : Vec Ideal S1024x128 .f32) (xw : Vec Ideal S1024x512 .f32) (h : Vec Ideal S1024x128 .f32)
    (xg : Fin 512 → EReal) (b : Fin 1024) (hx : ∀ q, xw (ix2 b q) = xg q * scale q) (d : Fin 128) :
    k0_pay12 cc xw (join h (k0_pay8 (F := Ideal))) (aug A.whh A.bih A.bhh) (ix2 b d)
      = nextC (fun q => xg q + A.bih (ix1 q) + hgate A (fun k => h (ix2 b k)) q + A.bhh (ix1 q)) (fun k => cc (ix2 b k)) d := by
  have e := pay11_apply A xw h xg b hx
  have s0 := (slice2_axis1_apply 0 _ slices_S1024x512_o0_0_S1024x128 b d (col 0 (by omega) d) rfl).trans (e _)
  have s1 := (slice2_axis1_apply 128 _ slices_S1024x512_o0_128_S1024x128 b d (col 128 (by omega) d) rfl).trans (e _)
  have s2 := (slice2_axis1_apply 256 _ slices_S1024x512_o0_256_S1024x128 b d (col 256 (by omega) d) rfl).trans (e _)
  rw [scale_col _ _ _ (Or.inl (by omega))] at s0 s1
  rw [scale_col256, mul_one] at s2
  unfold k0_pay12
  show Ideal.ofBits .f32 0x3F000000#32 * (cc (ix2 b d) * (Ideal.tanh (extractStridedSlice (s := S1024x512) S1024x128 ![0, 128] _ _ (ix2 b d))
      + Ideal.ofBits .f32 0x3F800000#32) + Ideal.tanh (extractStridedSlice (s := S1024x512) S1024x128 ![0, 256] _ _ (ix2 b d))
      * (Ideal.tanh (extractStridedSlice (s := S1024x512) S1024x128 ![0, 0] _ _ (ix2 b d)) + Ideal.ofBits .f32 0x3F800000#32)) = _
  rw [s0, s1, s2, ofBits_half, ofBits_one, tanh_half, tanh_half, cell_eq]
  rfl

/-- Twice the new hidden entry of a point. -/
theorem pay13_apply (cc : Vec Ideal S1024x128 .f32) (xw : Vec Ideal S1024x512 .f32) (h : Vec Ideal S1024x128 .f32)
    (xg : Fin 512 → EReal) (b : Fin 1024) (hx : ∀ q, xw (ix2 b q) = xg q * scale q) (d : Fin 128) :
    k0_pay13 cc xw (join h (k0_pay8 (F := Ideal))) (aug A.whh A.bih A.bhh) (ix2 b d)
      = two * nextH (fun q => xg q + A.bih (ix1 q) + hgate A (fun k => h (ix2 b k)) q + A.bhh (ix1 q))
          (fun k => cc (ix2 b k)) d := by
  have e := pay11_apply A xw h xg b hx
  have s3 := (slice2_axis1_apply 384 _ slices_S1024x512_o0_384_S1024x128 b d (col 384 (by omega) d) rfl).trans (e _)
  rw [scale_col _ _ _ (Or.inr (by omega))] at s3
  have hc := pay12_apply A cc xw h xg b hx d
  unfold k0_pay13
  show Ideal.tanh (k0_pay12 cc xw (join h (k0_pay8 (F := Ideal))) (aug A.whh A.bih A.bhh) (ix2 b d))
      * (Ideal.tanh (extractStridedSlice (s := S1024x512) S1024x128 ![0, 384] _ _ (ix2 b d)) + Ideal.ofBits .f32 0x3F800000#32) = _
  rw [s3, hc, ofBits_one, tanh_half, mul_left_comm, mul_comm (Ideal.tanh _)]
  rfl

end Cert.Proof.KernelPay

end
-- ==== Proof.KernelPoint.lean ====
/- One grid point against the stack machine: from the entries at the pointer after operation `n` the point's block is
   the output of step `n`, and what it leaves is the entries after operation `n + 1`. -/
module

public import proofs.«01_k».proof.Proof.KernelPay

@[expose] public section

noncomputable section

namespace Cert.Proof.KernelPoint

open Idealize.ShloMosaic Idealize.ShloMosaic.TcCoe Idealize.ShloMosaic.ValueIdx
open Idealize.SL Idealize.SL.Sem
open Cert.KernelIdeal Cert.KernelIdeal.Gen Cert.Proof.Arith Cert.Proof.KernelHost Cert.Proof.KernelStep Cert.Proof.KernelPay
open Cert.Proof.Model
open scoped BigOperators

variable (A : Args)

/-- The first row of operations. -/
theorem opRow0_apply (b : Fin 1024) : opRow0 A.ops (ix2 (0 : Fin 1) b) = op A 0 b := by
  unfold opRow0
  exact View.ld_unit_apply_of (Val := Elt Ideal) (e := .i32) A.ops _ _ _ (ix2 (0 : Fin 1) b) (ix2 (Fin.ofNat 32 0) b)
    (fun a => by match a with | ⟨0, _⟩ => rfl | ⟨1, _⟩ => exact (Nat.zero_add _).symm)

/-- The row of operations that point `n` uses: row `n + 1`. -/
theorem opRow_apply (i : grid0.Coords) (b : Fin 1024) : opRow i A.ops (ix2 (0 : Fin 1) b) = op A ((i 0).val + 1) b := by
  unfold opRow
  have hi : (i 0).val < 31 := (i 0).isLt
  refine View.ld_unit_apply_of (Val := Elt Ideal) (e := .i32) A.ops _ _ _ (ix2 (0 : Fin 1) b) (ix2 (Fin.ofNat 32 ((i 0).val + 1)) b) (fun a => ?_)
  have e0 : k0_off1 i 0 = (i 0).val + 1 := by rw [k0_off1_eq]; rfl
  have e1 : k0_off1 i 1 = 0 := by rw [k0_off1_eq]; rfl
  match a with
  | ⟨0, _⟩ =>
    show ((i 0).val + 1) % 32 = k0_off1 i 0 + 0
    rw [e0, Nat.mod_eq_of_lt (by omega)]
  | ⟨1, _⟩ =>
    show b.val = k0_off1 i 1 + b.val
    rw [e1, Nat.zero_add]

section

variable (i : grid0.Coords) (h cc : Vec Ideal S1024x128 .f32) (xw : Vec Ideal S1024x512 .f32) (b : Fin 1024)
  (hh : ∀ d, h (ix2 b d) = H A (i 0).val b d) (hc : ∀ d, cc (ix2 b d) = C A (i 0).val b d)
  (hx : ∀ q, xw (ix2 b q) = xgate A (i 0).val b q * scale q)
include hh hc hx

/-- The output block. -/
theorem outOf_apply (d : Fin 128) (u : Fin 1) :
    outOf i A.ops (aug A.whh A.bih A.bhh) h cc xw (ix3 u b d) = Model.out A (i 0).val b d := by
  unfold outOf Model.out
  rw [pay2_apply, opRow_apply, pay13_apply A cc xw h _ b hx, hh, funext hh, funext hc]
  rfl

/-- The hidden entries left. -/
theorem hOf_apply (d : Fin 128) :
    hOf i A.ops (aug A.whh A.bih A.bhh) h cc xw (ix2 b d) = H A ((i 0).val + 1) b d := by
  unfold hOf
  rw [H_succ, pay3_apply, opRow_apply, pay13_apply A cc xw h _ b hx, hh, half_two_mul, funext hh, funext hc]
  rfl

/-- The cell entries left. -/
theorem cOf_apply (d : Fin 128) :
    cOf i A.ops (aug A.whh A.bih A.bhh) h cc xw (ix2 b d) = C A ((i 0).val + 1) b d := by
  unfold cOf
  rw [C_succ, pay4_apply, opRow_apply, pay12_apply A cc xw h _ b hx, hc, funext hh, funext hc]
  rfl

end

/-- The initial hidden entries. -/
theorem init_h (x5 : Vec Ideal S1x128 .f32) (hx : ∀ d, x5 (ix2 (0 : Fin 1) d) = A.h0 (ix1 d)) (b : Fin 1024) (d : Fin 128) :
    k0_pay7 (opRow0 A.ops) x5 (ix2 b d) = H A 0 b d := by
  rw [pay7_apply, opRow0_apply, H_zero, hx]

/-- The initial cell entries. -/
theorem init_c (x6 : Vec Ideal S1x128 .f32) (hx : ∀ d, x6 (ix2 (0 : Fin 1) d) = A.c0 (ix1 d)) (b : Fin 1024) (d : Fin 128) :
    k0_pay9 (opRow0 A.ops) x6 (ix2 b d) = C A 0 b d := by
  rw [pay9_apply, opRow0_apply, C_zero, hx]

/-- The products of step `n`'s inputs. -/
theorem products (n : Nat) (x : Vec Ideal S1x1024x128 .f32) (hx : ∀ b k, x (ix3 (0 : Fin 1) b k) = A.x (ix3 (Fin.ofNat 32 n) b k))
    (b : Fin 1024) (q : Fin 512) : k0_pay10 x (wT A.wih) (ix2 b q) = xgate A n b q * scale q := by
  rw [pay10_apply]
  unfold xgate
  simp only [hx]

end Cert.Proof.KernelPoint

end
-- ==== Proof.KernelValue.lean ====
/- What the kernel's output array holds: the outputs of the stack machine. By induction over the grid points, the
   scratch arrays after point `n` hold the entries after operation `n + 1`. -/
module

public import proofs.«01_k».proof.Proof.KernelPoint

@[expose] public section

noncomputable section

namespace Cert.Proof.KernelValue

open Idealize.ShloMosaic Idealize.ShloMosaic.TcCoe Idealize.ShloMosaic.ValueIdx
open Idealize.SL Idealize.SL.Sem
open Cert.KernelIdeal Cert.KernelIdeal.Gen Cert.KernelIdeal.Value
open Cert.Proof.Arith Cert.Proof.KernelHost Cert.Proof.KernelStep Cert.Proof.KernelPay Cert.Proof.KernelPoint Cert.Proof.Model

variable (m : (ℓ : Loc nD τ sig) → Buf (Elt Ideal) ℓ) (c : Dev nD)

/-- The kernel's arguments on core `c`. -/
def args : Args where
  x := m ((c : Thread nD τ).loc main_arg0)
  ops := m ((c : Thread nD τ).loc main_arg1)
  wih := m ((c : Thread nD τ).loc main_arg2)
  whh := m ((c : Thread nD τ).loc main_arg3)
  bih := m ((c : Thread nD τ).loc main_arg4)
  bhh := m ((c : Thread nD τ).loc main_arg5)
  h0 := m ((c : Thread nD τ).loc main_arg6)
  c0 := m ((c : Thread nD τ).loc main_arg7)

/-! ## The input blocks -/

theorem coords_val : ∀ t : Fin grid0.N, (grid0.coords t 0).val = t.val := by decide +kernel
theorem index0 : ∀ t : Fin grid0.N, win0_0.index t = ![0, 0] := by decide +kernel
theorem index1 : ∀ t : Fin grid0.N, win0_1.index t = ![0, 0, 0] := by decide +kernel
theorem index2 : ∀ t : Fin grid0.N, win0_2.index t = ![t.val + 1, 0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel

theorem iblk0 (t : Fin cfg0.N) : iblk m c 0 t = (args m c).ops := by
  refine Eq.trans ?_ (V_main_arg1 m c)
  funext y
  show V m c main_arg1 (((cfg0.win 0).blk t).view.emb y) = V m c main_arg1 y
  refine congrArg _ (funext fun a => Fin.ext ?_)
  have e := index0 t
  match a with
  | ⟨0, _⟩ => show win0_0.index t (0 : Fin 2) * 32 + 1 * (y 0).val = (y 0).val; rw [e]; show 0 * 32 + _ = _; omega
  | ⟨1, _⟩ => show win0_0.index t (1 : Fin 2) * 1024 + 1 * (y 1).val = (y 1).val; rw [e]; show 0 * 1024 + _ = _; omega

theorem iblk3 (t : Fin cfg0.N) : iblk m c 3 t = wT (args m c).wih := by
  refine Eq.trans ?_ (V_v8 m c)
  funext y
  show V m c main_v8 (((cfg0.win 3).blk t).view.emb y) = V m c main_v8 y
  refine congrArg _ (funext fun a => Fin.ext ?_)
  have e := index3 t
  match a with
  | ⟨0, _⟩ => show win0_3.index t (0 : Fin 2) * 128 + 1 * (y 0).val = (y 0).val; rw [e]; show 0 * 128 + _ = _; omega
  | ⟨1, _⟩ => show win0_3.index t (1 : Fin 2) * 512 + 1 * (y 1).val = (y 1).val; rw [e]; show 0 * 512 + _ = _; omega

theorem iblk4 (t : Fin cfg0.N) : iblk m c 4 t = aug (args m c).whh (args m c).bih (args m c).bhh := by
  refine Eq.trans ?_ (V_v19 m c)
  funext y
  show V m c main_v19 (((cfg0.win 4).blk t).view.emb y) = V m c main_v19 y
  refine congrArg _ (funext fun a => Fin.ext ?_)
  have e := index4 t
  match a with
  | ⟨0, _⟩ => show win0_4.index t (0 : Fin 2) * 256 + 1 * (y 0).val = (y 0).val; rw [e]; show 0 * 256 + _ = _; omega
  | ⟨1, _⟩ => show win0_4.index t (1 : Fin 2) * 512 + 1 * (y 1).val = (y 1).val; rw [e]; show 0 * 512 + _ = _; omega

theorem iblk5 (t : Fin cfg0.N) (d : Fin 128) : (iblk m c 5 t : Vec Ideal S1x128 .f32) (ix2 (0 : Fin 1) d) = (args m c).h0 (ix1 d) := by
  have e : iblk m c 5 t = V m c main_v20 := by
    funext y
    show V m c main_v20 (((cfg0.win 5).blk t).view.emb y) = V m c main_v20 y
    refine congrArg _ (funext fun a => Fin.ext ?_)
    have e := index5 t
    match a with
    | ⟨0, _⟩ => show win0_5.index t (0 : Fin 2) * 1 + 1 * (y 0).val = (y 0).val; rw [e]; show 0 * 1 + _ = _; omega
    | ⟨1, _⟩ => show win0_5.index t (1 : Fin 2) * 128 + 1 * (y 1).val = (y 1).val; rw [e]; show 0 * 128 + _ = _; omega
  refine (congrFun (e.trans (V_v20 m c)) _).trans ?_
  exact shapeCast_a_1a_apply _ _ 0 d

theorem iblk6 (t : Fin cfg0.N) (d : Fin 128) : (iblk m c 6 t : Vec Ideal S1x128 .f32) (ix2 (0 : Fin 1) d) = (args m c).c0 (ix1 d) := by
  have e : iblk m c 6 t = V m c main_v21 := by
    funext y
    show V m c main_v21 (((cfg0.win 6).blk t).view.emb y) = V m c main_v21 y
    refine congrArg _ (funext fun a => Fin.ext ?_)
    have e := index6 t
    match a with
    | ⟨0, _⟩ => show win0_6.index t (0 : Fin 2) * 1 + 1 * (y 0).val = (y 0).val; rw [e]; show 0 * 1 + _ = _; omega
    | ⟨1, _⟩ => show win0_6.index t (1 : Fin 2) * 128 + 1 * (y 1).val = (y 1).val; rw [e]; show 0 * 128 + _ = _; omega
  refine (congrFun (e.trans (V_v21 m c)) _).trans ?_
  exact shapeCast_a_1a_apply _ _ 0 d

theorem iblk1 (t : Fin cfg0.N) (b : Fin 1024) (k : Fin 128) :
    (iblk m c 1 t : Vec Ideal S1x1024x128 .f32) (ix3 (0 : Fin 1) b k) = (args m c).x (ix3 (Fin.ofNat 32 0) b k) := by
  show V m c main_arg0 (((cfg0.win 1).blk t).view.emb (ix3 (0 : Fin 1) b k)) = _
  rw [V_main_arg0]
  show (args m c).x _ = (args m c).x _
  refine congrArg _ (funext fun a => Fin.ext ?_)
  have e := index1 t
  match a with
  | ⟨0, _⟩ => show win0_1.index t (0 : Fin 3) * 1 + 1 * 0 = 0; rw [e]; rfl
  | ⟨1, _⟩ => show win0_1.index t (1 : Fin 3) * 1024 + 1 * b.val = b.val; rw [e]; show 0 * 1024 + _ = _; omega
  | ⟨2, _⟩ => show win0_1.index t (2 : Fin 3) * 128 + 1 * k.val = k.val; rw [e]; show 0 * 128 + _ = _; omega

theorem iblk2 (t : Fin cfg0.N) (b : Fin 1024) (k : Fin 128) :
    (iblk m c 2 t : Vec Ideal S1x1024x128 .f32) (ix3 (0 : Fin 1) b k) = (args m c).x (ix3 (Fin.ofNat 32 (t.val + 1)) b k) := by
  show V m c main_arg0 (((cfg0.win 2).blk t).view.emb (ix3 (0 : Fin 1) b k)) = _
  rw [V_main_arg0]
  show (args m c).x _ = (args m c).x _
  refine congrArg _ (funext fun a => Fin.ext ?_)
  have e := index2 t
  have ht : t.val < 31 := lt_of_lt_of_eq t.isLt N_0
  match a with
  | ⟨0, _⟩ =>
    show win0_2.index t (0 : Fin 3) * 1 + 1 * 0 = (t.val + 1) % 32
    rw [e, Nat.mod_eq_of_lt (by omega)]; show (t.val + 1) * 1 + 1 * 0 = _; omega
  | ⟨1, _⟩ => show win0_2.index t (1 : Fin 3) * 1024 + 1 * b.val = b.val; rw [e]; show 0 * 1024 + _ = _; omega
  | ⟨2, _⟩ => show win0_2.index t (2 : Fin 3) * 128 + 1 * k.val = k.val; rw [e]; show 0 * 128 + _ = _; omega

/-! ## The invariant -/

/-- What the output block and the scratch arrays hold after point `n`. -/
structure After (n : Nat) (T : Vec Ideal S1x1024x128 .f32 × Vec Ideal S1024x256 .f32 × Vec Ideal S1024x128 .f32 × Vec Ideal S1024x512 .f32) :
    Prop where
  out : ∀ (u : Fin 1) b d, T.1 (ix3 u b d) = Model.out (args m c) n b d
  hid : ∃ h : Vec Ideal S1024x128 .f32, T.2.1 = join h (k0_pay8 (F := Ideal)) ∧ ∀ b d, h (ix2 b d) = H (args m c) (n + 1) b d
  cell : ∀ b d, T.2.2.1 (ix2 b d) = C (args m c) (n + 1) b d
  prod : ∀ b q, T.2.2.2 (ix2 b q) = xgate (args m c) (n + 1) b q * scale q

set_option maxHeartbeats 1000000 in
/-- The first point. -/
theorem after_zero (t : Fin cfg0.N) (ht : t.val = 0) : After m c 0 (stAt0 m c t.val t.isLt junk0) := by
  have h0 : t.val % 31 = 0 := by rw [ht]
  have hi : (grid0.coords t 0).val = 0 := (coords_val t).trans ht
  have a1 := init_h (args m c) _ (iblk5 m c t)
  have a2 := init_c (args m c) _ (iblk6 m c t)
  have a3 := products (args m c) 0 _ (iblk1 m c t)
  have a4 := products (args m c) (t.val + 1) _ (iblk2 m c t)
  rw [stAt0_A m c t _ h0]
  rw [out0_A_7_eq, sout0_A_0_eq, sout0_A_1_eq, sout0_A_2_eq, iblk0, iblk3, iblk4]
  refine ⟨fun u b d => ?_, ⟨_, rfl, fun b d => ?_⟩, fun b d => ?_, fun b q => ?_⟩
  · refine (outOf_apply (args m c) (grid0.coords t) _ _ _ b ?_ ?_ ?_ d u).trans (by rw [hi])
    · rw [hi]; exact a1 b
    · rw [hi]; exact a2 b
    · rw [hi]; exact a3 b
  · refine (hOf_apply (args m c) (grid0.coords t) _ _ _ b ?_ ?_ ?_ d).trans (by rw [hi])
    · rw [hi]; exact a1 b
    · rw [hi]; exact a2 b
    · rw [hi]; exact a3 b
  · refine (cOf_apply (args m c) (grid0.coords t) _ _ _ b ?_ ?_ ?_ d).trans (by rw [hi])
    · rw [hi]; exact a1 b
    · rw [hi]; exact a2 b
    · rw [hi]; exact a3 b
  · refine (a4 b q).trans (by rw [ht])

set_option maxHeartbeats 1000000 in
/-- A later point, from what the point before left. -/
theorem after_succ (n : Nat) (t : Fin cfg0.N) (ht : t.val = n + 1) (T) (hT : After m c n T) :
    After m c (n + 1) (stAt0 m c t.val t.isLt T) := by
  have hlt : t.val < 31 := lt_of_lt_of_eq t.isLt N_0
  have h0 : ¬ t.val % 31 = 0 := by rw [Nat.mod_eq_of_lt hlt]; omega
  have hi : (grid0.coords t 0).val = n + 1 := (coords_val t).trans ht
  have a4 := products (args m c) (t.val + 1) _ (iblk2 m c t)
  obtain ⟨T1, T2, T3, T4⟩ := T
  obtain ⟨-, ⟨h, hj, hh⟩, hc, hx⟩ := hT
  dsimp only at hj hc hx
  subst hj
  rw [stAt0_B m c t _ h0]
  dsimp only
  rw [out0_B_7_eq, sout0_B_0_eq, sout0_B_1_eq, sout0_B_2_eq, iblk0, iblk3, iblk4]
  refine ⟨fun u b d => ?_, ⟨_, rfl, fun b d => ?_⟩, fun b d => ?_, fun b q => ?_⟩
  · refine (outOf_apply (args m c) (grid0.coords t) _ _ _ b ?_ ?_ ?_ d u).trans (by rw [hi])
    · rw [hi]; exact hh b
    · rw [hi]; exact hc b
    · rw [hi]; exact hx b
  · refine (hOf_apply (args m c) (grid0.coords t) _ _ _ b ?_ ?_ ?_ d).trans (by rw [hi])
    · rw [hi]; exact hh b
    · rw [hi]; exact hc b
    · rw [hi]; exact hx b
  · refine (cOf_apply (args m c) (grid0.coords t) _ _ _ b ?_ ?_ ?_ d).trans (by rw [hi])
    · rw [hi]; exact hh b
    · rw [hi]; exact hc b
    · rw [hi]; exact hx b
  · refine (a4 b q).trans (by rw [ht])

/-- After every point the arrays hold the stack machine's entries. -/
theorem after_all : ∀ (n : Nat) (hn : n < cfg0.N), After m c n (outsAt0 m c n hn)
  | 0, hn => by
    rw [outsAt0_zero]
    exact after_zero m c ⟨0, hn⟩ rfl
  | n + 1, hn => by
    rw [outsAt0_succ]
    exact after_succ m c n ⟨n + 1, hn⟩ rfl _ (after_all n (Nat.lt_of_succ_lt hn))

/-- The output array after the run, entry by entry. -/
theorem G7_apply (n : Fin 31) (b : Fin 1024) (d : Fin 128) :
    G7 m c (ix3 n b d) = Model.out (args m c) n.val b d := by
  have hp : pt7Of (ix3 n b d) = n.val := by
    show 1 * (n.val / 1 - 0) + 1 * (b.val / 1024 - 0) + 1 * (d.val / 128 - 0) = n.val
    have := b.isLt; have := d.isLt; omega
  have hn : n.val < cfg0.N := lt_of_lt_of_eq n.isLt N_0.symm
  have hl : loc7Of (ix3 n b d) = ix3 (0 : Fin 1) b d := by
    funext a; apply Fin.ext
    match a with
    | ⟨0, _⟩ => show n.val % 1 = 0; omega
    | ⟨1, _⟩ => show b.val % 1024 = b.val; exact Nat.mod_eq_of_lt b.isLt
    | ⟨2, _⟩ => show d.val % 128 = d.val; exact Nat.mod_eq_of_lt d.isLt
  have ha := (after_all m c n.val hn).out 0 b d
  rw [outsAt0_sweep] at ha
  unfold G7
  rw [dif_pos (by rw [hp]; exact hn), hl, fold0_congr m c _ _ n.val (by omega) hp]
  exact ha

end Cert.Proof.KernelValue

end
-- ==== Proof.RefOps.lean ====
/- The reference's indexed reads and writes at an index: rows at the loop counter, the stacks' entries at a pair of
   pointer and batch row. -/
module

public import proofs.«01_k».proof.Proof.Gen.ReferenceIdeal.Run
public import proofs.«01_k».proof.Proof.Model
public import Idealize.ShloMosaic.Lib.WordCmp
public import Idealize.ShloMosaic.Lib.ValueLayout
public import Idealize.ShloMosaic.Lib.Pipeline.Value
public import Idealize.ShloMosaic.Lib.Pointwise.ShapeOpsCore
public import Idealize.ShloMosaic.Lib.Routing.Ops
public import Idealize.ShloMosaic.Lib.Routing.OpsSet
public import Idealize.ShloMosaic.Lib.Routing.OpsPair
public import Idealize.ShloMosaic.Lib.Routing.OpsOne

@[expose] public section

noncomputable section

namespace Cert.Proof.RefOps

open Idealize.ShloMosaic hiding ix1 ix2 ix3 eq_ix1 eq_ix2 eq_ix3
open Idealize.ShloMosaic.TcCoe Idealize.ShloMosaic.ValueIdx
open Cert.ReferenceIdeal Cert.ReferenceIdeal.Gen
open scoped BigOperators

variable {α : Type}

/-! ## Rows at the counter -/

/-- A row of a 31-row table, read at a start inside the table. -/
theorem row2_apply (x : S31x1024.Idx → α) (start : Fin 2 → Int) (k : Fin 31) (h0 : start 0 = (k.val : Int)) (h1 : start 1 = 0)
    (b : Fin 1024) :
    shapeCast S1024 (Host.dynamicSlice S1x1024 x start sliceFits_S31x1024_S1x1024) shapeCasts_S1x1024_S1024 (ix1 b) = x (ix2 k b) := by
  have c0 : Host.clampedStart S31x1024 S1x1024 rfl start (0 : Fin 2) = k.val :=
    Host.clampedStart_of_le (s := S31x1024) (t := S1x1024) rfl start (0 : Fin 2) k.val h0 (by show k.val + 1 ≤ 31; omega)
  have c1 : Host.clampedStart S31x1024 S1x1024 rfl start (1 : Fin 2) = 0 :=
    Host.clampedStart_of_le (s := S31x1024) (t := S1x1024) rfl start (1 : Fin 2) 0 h1 (by show 0 + 1024 ≤ 1024; omega)
  refine (shapeCast_1a_a_apply _ _ b).trans ((Host.dynamicSlice_apply _ _ _ _).trans ?_)
  refine congrArg x (funext fun a => Fin.ext ?_)
  match a with
  | ⟨0, _⟩ => show Host.clampedStart S31x1024 S1x1024 rfl start (0 : Fin 2) + 0 = k.val; rw [c0, Nat.add_zero]
  | ⟨1, _⟩ => show Host.clampedStart S31x1024 S1x1024 rfl start (1 : Fin 2) + b.val = b.val; rw [c1, Nat.zero_add]

/-- A slab of a 31-slab table, read at a start inside the table. -/
theorem row3_apply (x : S31x1024x128.Idx → α) (start : Fin 3 → Int) (k : Fin 31) (h0 : start 0 = (k.val : Int)) (h1 : start 1 = 0)
    (h2 : start 2 = 0) (b : Fin 1024) (d : Fin 128) :
    shapeCast S1024x128 (Host.dynamicSlice S1x1024x128 x start sliceFits_S31x1024x128_S1x1024x128) shapeCasts_S1x1024x128_S1024x128 (ix2 b d)
      = x (ix3 k b d) := by
  have c0 : Host.clampedStart S31x1024x128 S1x1024x128 rfl start (0 : Fin 3) = k.val :=
    Host.clampedStart_of_le (s := S31x1024x128) (t := S1x1024x128) rfl start (0 : Fin 3) k.val h0 (by show k.val + 1 ≤ 31; omega)
  have c1 : Host.clampedStart S31x1024x128 S1x1024x128 rfl start (1 : Fin 3) = 0 :=
    Host.clampedStart_of_le (s := S31x1024x128) (t := S1x1024x128) rfl start (1 : Fin 3) 0 h1 (by show 0 + 1024 ≤ 1024; omega)
  have c2 : Host.clampedStart S31x1024x128 S1x1024x128 rfl start (2 : Fin 3) = 0 :=
    Host.clampedStart_of_le (s := S31x1024x128) (t := S1x1024x128) rfl start (2 : Fin 3) 0 h2 (by show 0 + 128 ≤ 128; omega)
  refine (shapeCast_1ab_ab_apply _ _ b d).trans ((Host.dynamicSlice_apply _ _ _ _).trans ?_)
  refine congrArg x (funext fun a => Fin.ext ?_)
  match a with
  | ⟨0, _⟩ => show Host.clampedStart S31x1024x128 S1x1024x128 rfl start (0 : Fin 3) + 0 = k.val; rw [c0, Nat.add_zero]
  | ⟨1, _⟩ => show Host.clampedStart S31x1024x128 S1x1024x128 rfl start (1 : Fin 3) + b.val = b.val; rw [c1, Nat.zero_add]
  | ⟨2, _⟩ => show Host.clampedStart S31x1024x128 S1x1024x128 rfl start (2 : Fin 3) + d.val = d.val; rw [c2, Nat.zero_add]

/-- A slab written at slab `k` of the outputs: that slab is the update, every other slab is kept. -/
theorem put3_apply (x : S31x1024x128.Idx → α) (u : S1024x128.Idx → α) (start : Fin 3 → Int) (k : Fin 31) (h0 : start 0 = (k.val : Int))
    (h1 : start 1 = 0) (h2 : start 2 = 0) (j : Fin 31) (b : Fin 1024) (d : Fin 128) :
    Host.dynamicUpdateSlice x (broadcastInDim S1x1024x128 ![1, 2] bcast_S1024x128_S1x1024x128_1_2 u) start
        updateFits_S31x1024x128_S1x1024x128 (ix3 j b d)
      = if j = k then u (ix2 b d) else x (ix3 j b d) := by
  have c0 : Host.clampedStart S31x1024x128 S1x1024x128 rfl start (0 : Fin 3) = k.val :=
    Host.clampedStart_of_le (s := S31x1024x128) (t := S1x1024x128) rfl start (0 : Fin 3) k.val h0 (by show k.val + 1 ≤ 31; omega)
  have c1 : Host.clampedStart S31x1024x128 S1x1024x128 rfl start (1 : Fin 3) = 0 :=
    Host.clampedStart_of_le (s := S31x1024x128) (t := S1x1024x128) rfl start (1 : Fin 3) 0 h1 (by show 0 + 1024 ≤ 1024; omega)
  have c2 : Host.clampedStart S31x1024x128 S1x1024x128 rfl start (2 : Fin 3) = 0 :=
    Host.clampedStart_of_le (s := S31x1024x128) (t := S1x1024x128) rfl start (2 : Fin 3) 0 h2 (by show 0 + 128 ≤ 128; omega)
  rw [Host.dynamicUpdateSlice_apply]
  by_cases hj : j = k
  · rw [if_pos hj, dif_pos (fun a => by
      match a with
      | ⟨0, _⟩ =>
        show Host.clampedStart S31x1024x128 S1x1024x128 rfl start (0 : Fin 3) ≤ j.val
          ∧ j.val < Host.clampedStart S31x1024x128 S1x1024x128 rfl start (0 : Fin 3) + 1
        rw [c0, hj]; omega
      | ⟨1, _⟩ =>
        show Host.clampedStart S31x1024x128 S1x1024x128 rfl start (1 : Fin 3) ≤ b.val
          ∧ b.val < Host.clampedStart S31x1024x128 S1x1024x128 rfl start (1 : Fin 3) + 1024
        rw [c1]; omega
      | ⟨2, _⟩ =>
        show Host.clampedStart S31x1024x128 S1x1024x128 rfl start (2 : Fin 3) ≤ d.val
          ∧ d.val < Host.clampedStart S31x1024x128 S1x1024x128 rfl start (2 : Fin 3) + 128
        rw [c2]; omega)]
    refine broadcastInDim_apply _ _ u _ (ix2 b d) fun a => ?_
    match a with
    | ⟨0, _⟩ =>
      show b.val = b.val - Host.clampedStart S31x1024x128 S1x1024x128 rfl start (1 : Fin 3)
      rw [c1, Nat.sub_zero]
    | ⟨1, _⟩ =>
      show d.val = d.val - Host.clampedStart S31x1024x128 S1x1024x128 rfl start (2 : Fin 3)
      rw [c2, Nat.sub_zero]
  · rw [if_neg hj, dif_neg]
    intro hin
    have h : Host.clampedStart S31x1024x128 S1x1024x128 rfl start (0 : Fin 3) ≤ j.val
        ∧ j.val < Host.clampedStart S31x1024x128 S1x1024x128 rfl start (0 : Fin 3) + 1 := hin (0 : Fin 3)
    rw [c0] at h
    exact hj (Fin.ext (by omega))

/-! ## Index pairs -/

/-- A vector of index words, those below zero raised by the axis's extent. -/
def wrapIdx (n : BitVec 32) (p : IVec S1024 32) : IVec S1024 32 :=
  select (cmpi .slt p (broadcastInDim S1024 ![] bcast_S_S1024 (constantI S_ 32 0#32)))
    (addi p (broadcastInDim S1024 ![] bcast_S_S1024 (constantI S_ 32 n))) p

theorem wrapIdx_apply (n : BitVec 32) (p : IVec S1024 32) (b : Fin 1024) (h : (p (ix1 b)).toNat < 2 ^ 31) :
    wrapIdx n p (ix1 b) = p (ix1 b) := Routing.wrap_of_lt _ _ h

/-- The pairs of pointer and batch row. -/
def pairs (p q : IVec S1024 32) : IVec S1024x2 32 :=
  concatenate S1024x2 1 [⟨S1024x1, broadcastInDim S1024x1 ![0] bcast_S1024_S1024x1_0 p⟩,
    ⟨S1024x1, broadcastInDim S1024x1 ![0] bcast_S1024_S1024x1_0 q⟩] concatenates_S1024x1_S1024x1_S1024x2_d1

theorem pairs_fst (p q : IVec S1024 32) (b : Fin 1024) : pairs p q (ix2 b (0 : Fin 2)) = p (ix1 b) := by
  refine (concatenate_apply_piece (1 : Fin S1024x2.rank) [⟨S1024x1, broadcastInDim S1024x1 ![0] bcast_S1024_S1024x1_0 p⟩,
    ⟨S1024x1, broadcastInDim S1024x1 ![0] bcast_S1024_S1024x1_0 q⟩] concatenates_S1024x1_S1024x1_S1024x2_d1 (ix2 b (0 : Fin 2)) 0 (by simp) S1024x1 _
    rfl rfl 0 rfl (ix2 b (0 : Fin 1)) (fun a ha => ?_) rfl).trans (Routing.bcCol _ p b)
  match a with
  | ⟨0, _⟩ => rfl
  | ⟨1, _⟩ => exact absurd rfl ha

theorem pairs_snd (p q : IVec S1024 32) (b : Fin 1024) : pairs p q (ix2 b (1 : Fin 2)) = q (ix1 b) := by
  refine (concatenate_apply_piece (1 : Fin S1024x2.rank) [⟨S1024x1, broadcastInDim S1024x1 ![0] bcast_S1024_S1024x1_0 p⟩,
    ⟨S1024x1, broadcastInDim S1024x1 ![0] bcast_S1024_S1024x1_0 q⟩] concatenates_S1024x1_S1024x1_S1024x2_d1 (ix2 b (1 : Fin 2)) 1 (by simp) S1024x1 _
    rfl rfl 1 rfl (ix2 b (0 : Fin 1)) (fun a ha => ?_) rfl).trans (Routing.bcCol _ q b)
  match a with
  | ⟨0, _⟩ => rfl
  | ⟨1, _⟩ => exact absurd rfl ha

/-! ## Entries of the stacks -/

abbrev gd : GatherDims S65x1024x128 S1024x2 S1024x128 := gather_S65x1024x128_S1024x2_S1024x128_1_01_n_n_01_1_11128
abbrev sd : ScatterDims S65x1024x128 S1024x2 S1024x128 := scatter_S65x1024x128_S1024x2_S1024x128_1_01_01_1
abbrev sd0 : ScatterDims S65x1024x128 S1 S1024x128 := scatter_S65x1024x128_S1_S1024x128_01_0_0_0

theorem g_start0 (idx : IVec S1024x2 32) (b : Fin 1024) (d : Fin 128) :
    gd.start (ix2 b d) idx 0 = min (idx (ix2 b (0 : Fin 2))).toInt.toNat 64 := by
  unfold GatherDims.start
  rw [dif_pos (by decide)]
  refine congrArg (fun j => min (idx j).toInt.toNat 64) (funext fun a => Fin.ext ?_)
  match a with
  | ⟨0, _⟩ => rfl
  | ⟨1, _⟩ => rfl

theorem g_start1 (idx : IVec S1024x2 32) (b : Fin 1024) (d : Fin 128) :
    gd.start (ix2 b d) idx 1 = min (idx (ix2 b (1 : Fin 2))).toInt.toNat 1023 := by
  unfold GatherDims.start
  rw [dif_pos (by decide)]
  refine congrArg (fun j => min (idx j).toInt.toNat 1023) (funext fun a => Fin.ext ?_)
  match a with
  | ⟨0, _⟩ => rfl
  | ⟨1, _⟩ => rfl

theorem g_start2 (idx : IVec S1024x2 32) (b : Fin 1024) (d : Fin 128) : gd.start (ix2 b d) idx 2 = 0 := by
  unfold GatherDims.start
  rw [dif_neg (by decide)]

/-- The entry that a pair of pointer and batch row names. -/
theorem gather_apply (x : S65x1024x128.Idx → α) (idx : IVec S1024x2 32) (b : Fin 1024) (d : Fin 128) (p : Fin 65)
    (h0 : idx (ix2 b (0 : Fin 2)) = BitVec.ofNat 32 p.val) (h1 : idx (ix2 b (1 : Fin 2)) = BitVec.ofNat 32 b.val) :
    Host.gather gd x idx (ix2 b d) = x (ix3 p b d) := by
  have i0 : (idx (ix2 b (0 : Fin 2))).toInt = (p.val : Int) := by rw [h0]; exact StableHlo.Predicate.toInt_ofNat_small _ (by omega)
  have i1 : (idx (ix2 b (1 : Fin 2))).toInt = (b.val : Int) := by rw [h1]; exact StableHlo.Predicate.toInt_ofNat_small _ (by omega)
  unfold Host.gather
  refine congrArg x (funext fun a => Fin.ext ?_)
  match a with
  | ⟨0, _⟩ =>
    show gd.start (ix2 b d) idx 0 + gd.batchCoord (ix2 b d) 0 + gd.offCoord (ix2 b d) 0 = p.val
    rw [g_start0, i0, GatherDims.batchCoord_eq_zero _ _ _ (by decide),
      GatherDims.offCoord_eq_zero _ _ _ (by decide)]
    omega
  | ⟨1, _⟩ =>
    show gd.start (ix2 b d) idx 1 + gd.batchCoord (ix2 b d) 1 + gd.offCoord (ix2 b d) 1 = b.val
    rw [g_start1, i1, GatherDims.batchCoord_eq_zero _ _ _ (by decide),
      GatherDims.offCoord_eq_zero _ _ _ (by decide)]
    omega
  | ⟨2, _⟩ =>
    show gd.start (ix2 b d) idx 2 + gd.batchCoord (ix2 b d) 2 + gd.offCoord (ix2 b d) 2 = d.val
    rw [g_start2, GatherDims.batchCoord_eq_zero _ _ _ (by decide)]
    show 0 + 0 + d.val = d.val
    omega

theorem s_start0 (idx : IVec S1024x2 32) (b : Fin 1024) (d : Fin 128) :
    sd.start (ix2 b d) idx 0 = (idx (ix2 b (0 : Fin 2))).toInt := by
  unfold ScatterDims.start
  rw [dif_pos (by decide)]
  refine congrArg (fun j => (idx j).toInt) (funext fun a => Fin.ext ?_)
  match a with
  | ⟨0, _⟩ => rfl
  | ⟨1, _⟩ => rfl

theorem s_start1 (idx : IVec S1024x2 32) (b : Fin 1024) (d : Fin 128) :
    sd.start (ix2 b d) idx 1 = (idx (ix2 b (1 : Fin 2))).toInt := by
  unfold ScatterDims.start
  rw [dif_pos (by decide)]
  refine congrArg (fun j => (idx j).toInt) (funext fun a => Fin.ext ?_)
  match a with
  | ⟨0, _⟩ => rfl
  | ⟨1, _⟩ => rfl

theorem s_start2 (idx : IVec S1024x2 32) (b : Fin 1024) (d : Fin 128) : sd.start (ix2 b d) idx 2 = 0 := by
  unfold ScatterDims.start
  rw [dif_neg (by decide)]

theorem s_window (b : Fin 1024) (d : Fin 128) :
    sd.window (ix2 b d) 0 = 0 ∧ sd.window (ix2 b d) 1 = 0 ∧ sd.window (ix2 b d) 2 = d.val := ⟨rfl, rfl, rfl⟩

/-- Where the update of batch row `b'` lands. -/
theorem lands (idx : IVec S1024x2 32) (P : Fin 1024 → Nat) (hP : ∀ b, P b < 65)
    (h0 : ∀ b : Fin 1024, idx (ix2 b (0 : Fin 2)) = BitVec.ofNat 32 (P b))
    (h1 : ∀ b : Fin 1024, idx (ix2 b (1 : Fin 2)) = BitVec.ofNat 32 b.val)
    (b' : Fin 1024) (d' : Fin 128) (p : Fin 65) (b : Fin 1024) (d : Fin 128) :
    sd.resultIdx? (ix2 b' d') idx = some (ix3 p b d) ↔ P b' = p.val ∧ b' = b ∧ d' = d := by
  have i0 : (idx (ix2 b' (0 : Fin 2))).toInt = (P b' : Int) := by
    rw [h0]; exact StableHlo.Predicate.toInt_ofNat_small _ (by have := hP b'; omega)
  have i1 : (idx (ix2 b' (1 : Fin 2))).toInt = (b'.val : Int) := by rw [h1]; exact StableHlo.Predicate.toInt_ofNat_small _ (by omega)
  rw [Routing.resultIdx?_eq_some]
  constructor
  · intro h
    have e0 : sd.start (ix2 b' d') idx 0 + (sd.window (ix2 b' d') 0 : Int) = (p.val : Int) := h 0
    have e1 : sd.start (ix2 b' d') idx 1 + (sd.window (ix2 b' d') 1 : Int) = (b.val : Int) := h 1
    have e2 : sd.start (ix2 b' d') idx 2 + (sd.window (ix2 b' d') 2 : Int) = (d.val : Int) := h 2
    rw [s_start0, i0, (s_window b' d').1] at e0
    rw [s_start1, i1, (s_window b' d').2.1] at e1
    rw [s_start2, (s_window b' d').2.2] at e2
    exact ⟨by omega, Fin.ext (by omega), Fin.ext (by omega)⟩
  · rintro ⟨hp, rfl, rfl⟩ a
    match a with
    | ⟨0, _⟩ =>
      show sd.start (ix2 b' d') idx 0 + (sd.window (ix2 b' d') 0 : Int) = (p.val : Int)
      rw [s_start0, i0, (s_window b' d').1]; omega
    | ⟨1, _⟩ =>
      show sd.start (ix2 b' d') idx 1 + (sd.window (ix2 b' d') 1 : Int) = (b'.val : Int)
      rw [s_start1, i1, (s_window b' d').2.1]; omega
    | ⟨2, _⟩ =>
      show sd.start (ix2 b' d') idx 2 + (sd.window (ix2 b' d') 2 : Int) = (d'.val : Int)
      rw [s_start2, (s_window b' d').2.2]; omega

/-- A stack after one entry per batch row is written: the entry at the written position, every other kept. -/
theorem scatter_apply (x : S65x1024x128.Idx → α) (idx : IVec S1024x2 32) (u : S1024x128.Idx → α) (P : Fin 1024 → Nat) (hP : ∀ b, P b < 65)
    (h0 : ∀ b : Fin 1024, idx (ix2 b (0 : Fin 2)) = BitVec.ofNat 32 (P b))
    (h1 : ∀ b : Fin 1024, idx (ix2 b (1 : Fin 2)) = BitVec.ofNat 32 b.val) (p : Fin 65) (b : Fin 1024) (d : Fin 128) :
    Host.scatter sd (fun _ b => b) x idx u (ix3 p b d) = if P b = p.val then u (ix2 b d) else x (ix3 p b d) := by
  by_cases hp : P b = p.val
  · rw [if_pos hp]
    refine Routing.scatter_set_hit _ _ _ _ _ _ (fun k hk => ?_) (ix2 b d) ((lands idx P hP h0 h1 b d p b d).2 ⟨hp, rfl, rfl⟩)
    obtain ⟨b', d', rfl⟩ : ∃ b' d', k = ix2 b' d' := ⟨k 0, k 1, eq_ix2 k⟩
    obtain ⟨_, rfl, rfl⟩ := (lands idx P hP h0 h1 b' d' p b d).1 hk
    rfl
  · rw [if_neg hp]
    refine Routing.scatter_set_miss _ _ _ _ _ fun k hk => ?_
    obtain ⟨b', d', rfl⟩ : ∃ b' d', k = ix2 b' d' := ⟨k 0, k 1, eq_ix2 k⟩
    obtain ⟨h, rfl, rfl⟩ := (lands idx P hP h0 h1 b' d' p b d).1 hk
    exact hp h

theorem s0_window (b : Fin 1024) (d : Fin 128) :
    sd0.window (ix2 b d) 0 = 0 ∧ sd0.window (ix2 b d) 1 = b.val ∧ sd0.window (ix2 b d) 2 = d.val := ⟨rfl, rfl, rfl⟩

theorem s0_start (idx : IVec S1 32) (hv : ∀ j, (idx j).toInt = 0) (b : Fin 1024) (d : Fin 128) (a : Fin 3) :
    sd0.start (ix2 b d) idx a = 0 := by
  unfold ScatterDims.start
  split
  · exact hv _
  · rfl

theorem lands0 (idx : IVec S1 32) (hv : ∀ j, (idx j).toInt = 0) (b' : Fin 1024) (d' : Fin 128) (p : Fin 65) (b : Fin 1024) (d : Fin 128) :
    sd0.resultIdx? (ix2 b' d') idx = some (ix3 p b d) ↔ p.val = 0 ∧ b' = b ∧ d' = d := by
  rw [Routing.resultIdx?_eq_some]
  constructor
  · intro h
    have e0 : sd0.start (ix2 b' d') idx 0 + (sd0.window (ix2 b' d') 0 : Int) = (p.val : Int) := h 0
    have e1 : sd0.start (ix2 b' d') idx 1 + (sd0.window (ix2 b' d') 1 : Int) = (b.val : Int) := h 1
    have e2 : sd0.start (ix2 b' d') idx 2 + (sd0.window (ix2 b' d') 2 : Int) = (d.val : Int) := h 2
    rw [s0_start idx hv, (s0_window b' d').1] at e0
    rw [s0_start idx hv, (s0_window b' d').2.1] at e1
    rw [s0_start idx hv, (s0_window b' d').2.2] at e2
    exact ⟨by omega, Fin.ext (by omega), Fin.ext (by omega)⟩
  · rintro ⟨hp, rfl, rfl⟩ a
    match a with
    | ⟨0, _⟩ =>
      show sd0.start (ix2 b' d') idx 0 + (sd0.window (ix2 b' d') 0 : Int) = (p.val : Int)
      rw [s0_start idx hv, (s0_window b' d').1]; omega
    | ⟨1, _⟩ =>
      show sd0.start (ix2 b' d') idx 1 + (sd0.window (ix2 b' d') 1 : Int) = (b'.val : Int)
      rw [s0_start idx hv, (s0_window b' d').2.1]; omega
    | ⟨2, _⟩ =>
      show sd0.start (ix2 b' d') idx 2 + (sd0.window (ix2 b' d') 2 : Int) = (d'.val : Int)
      rw [s0_start idx hv, (s0_window b' d').2.2]; omega

/-- A stack whose entry 0 is written: that entry is the update, every other kept. -/
theorem scatter0_apply (x : S65x1024x128.Idx → α) (idx : IVec S1 32) (hv : ∀ j, (idx j).toInt = 0) (u : S1024x128.Idx → α)
    (p : Fin 65) (b : Fin 1024) (d : Fin 128) :
    Host.scatter sd0 (fun _ b => b) x idx u (ix3 p b d) = if p.val = 0 then u (ix2 b d) else x (ix3 p b d) := by
  by_cases hp : p.val = 0
  · rw [if_pos hp]
    refine Routing.scatter_set_hit _ _ _ _ _ _ (fun k hk => ?_) (ix2 b d) ((lands0 idx hv b d p b d).2 ⟨hp, rfl, rfl⟩)
    obtain ⟨b', d', rfl⟩ : ∃ b' d', k = ix2 b' d' := ⟨k 0, k 1, eq_ix2 k⟩
    obtain ⟨_, rfl, rfl⟩ := (lands0 idx hv b' d' p b d).1 hk
    rfl
  · rw [if_neg hp]
    refine Routing.scatter_set_miss _ _ _ _ _ fun k hk => ?_
    obtain ⟨b', d', rfl⟩ : ∃ b' d', k = ix2 b' d' := ⟨k 0, k 1, eq_ix2 k⟩
    exact hp ((lands0 idx hv b' d' p b d).1 hk).1

end Cert.Proof.RefOps

end
-- ==== Proof.RefStep.lean ====
/- One trip of the reference's loop, at an index: the gates, the new cell and hidden entries, and the returned slab. -/
module

public import proofs.«01_k».proof.Proof.RefOps
public import Idealize.ShloMosaic.Lib.StackMember

@[expose] public section

noncomputable section

namespace Cert.Proof.RefStep

open Idealize.ShloMosaic hiding ix1 ix2 ix3 eq_ix1 eq_ix2 eq_ix3
open Idealize.ShloMosaic.TcCoe Idealize.ShloMosaic.ValueIdx
open Cert.ReferenceIdeal Cert.ReferenceIdeal.Gen Cert.Proof.Arith Cert.Proof.Model Cert.Proof.RefOps
open scoped BigOperators

/-! ## The trip's pure parts -/

/-- A product with a transposed weight matrix. -/
theorem dot_apply (x : FVec Ideal S1024x128 .f32) (w : FVec Ideal S512x128 .f32) (b : Fin 1024) (q : Fin 512) :
    Host.dotGeneral dot_S1024x128_S128x512_S1024x512_1_0_0_1_n_n none x
        (transpose S128x512 [1, 0] w transposes_S512x128_S128x512_1_0 : FVec Ideal S128x512 .f32) (ix2 b q)
      = ∑ k : Fin 128, x (ix2 b k) * w (ix2 q k) := by
  refine (StackMember.dotGeneral_plain_apply none x _ b q).trans ?_
  exact Finset.sum_congr rfl fun k _ => congrArg (x (ix2 b k) * ·) (transpose_ix2_apply w _ k q)

/-- A bias vector along the rows. -/
def bias (v : FVec Ideal S512 .f32) : FVec Ideal S1024x512 .f32 :=
  broadcastInDim S1024x512 ![0, 1] bcast_S1x512_S1024x512_0_1 (broadcastInDim S1x512 ![1] bcast_S512_S1x512_1 v)

theorem bias_apply (v : FVec Ideal S512 .f32) (b : Fin 1024) (q : Fin 512) : bias v (ix2 b q) = v (ix1 q) :=
  Routing.bcCols _ _ v b q

/-- The gates from the input slab `x` and the hidden entries `h`. -/
def gatesOf (x h : FVec Ideal S1024x128 .f32) (wih whh : FVec Ideal S512x128 .f32) (bih bhh : FVec Ideal S512 .f32) :
    FVec Ideal S1024x512 .f32 :=
  addf (addf (addf (Host.dotGeneral dot_S1024x128_S128x512_S1024x512_1_0_0_1_n_n none x
      (transpose S128x512 [1, 0] wih transposes_S512x128_S128x512_1_0)) (bias bih))
    (Host.dotGeneral dot_S1024x128_S128x512_S1024x512_1_0_0_1_n_n none h
      (transpose S128x512 [1, 0] whh transposes_S512x128_S128x512_1_0))) (bias bhh)

theorem gatesOf_apply (x h : FVec Ideal S1024x128 .f32) (wih whh : FVec Ideal S512x128 .f32) (bih bhh : FVec Ideal S512 .f32)
    (b : Fin 1024) (q : Fin 512) :
    gatesOf x h wih whh bih bhh (ix2 b q)
      = (∑ k : Fin 128, x (ix2 b k) * wih (ix2 q k)) + bih (ix1 q) + (∑ k : Fin 128, h (ix2 b k) * whh (ix2 q k)) + bhh (ix1 q) := by
  unfold gatesOf
  rw [addf_apply, addf_apply, addf_apply, bias_apply, bias_apply, dot_apply, dot_apply]

/-- The logistic function as the reference spells it. -/
def lg (x : FVec Ideal S1024x128 .f32) : FVec Ideal S1024x128 .f32 :=
  Host.divf (broadcastInDim S1024x128 ![] bcast_S_S1024x128 (constant S_ .f32 0x3F800000#32))
    (addf (broadcastInDim S1024x128 ![] bcast_S_S1024x128 (constant S_ .f32 0x3F800000#32)) (Host.exp (Host.negf x)))

theorem lg_apply (x : FVec Ideal S1024x128 .f32) (i : S1024x128.Idx) : lg x i = Ideal.logistic (x i) := by
  show Ideal.div (Ideal.ofBits .f32 0x3F800000#32) (Ideal.ofBits .f32 0x3F800000#32 + Ideal.exp (-(x i))) = _
  rw [ofBits_one]
  rfl

/-- A quarter of the gates. -/
theorem quarter_apply (g : FVec Ideal S1024x512 .f32) (o : Nat) (ho : o ≤ 384) (h : S1024x512.Slices ![0, o] S1024x128) (b : Fin 1024)
    (d : Fin 128) : extractStridedSlice S1024x128 ![0, o] g h (ix2 b d) = g (ix2 b (col o ho d)) :=
  slice2_axis1_apply o g h b d (col o ho d) rfl

/-- The new cell entries from gates `g` and the cell entries `c`. -/
def cellOf (g : FVec Ideal S1024x512 .f32) (c : FVec Ideal S1024x128 .f32) : FVec Ideal S1024x128 .f32 :=
  addf (mulf (lg (extractStridedSlice S1024x128 ![0, 128] g slices_S1024x512_S1024x128_0_128)) c)
    (mulf (lg (extractStridedSlice S1024x128 ![0, 0] g slices_S1024x512_S1024x128_0_0))
      (Host.tanh (extractStridedSlice S1024x128 ![0, 256] g slices_S1024x512_S1024x128_0_256)))

/-- The new hidden entries from gates `g` and the new cell entries `c`. -/
def hidOf (g : FVec Ideal S1024x512 .f32) (c : FVec Ideal S1024x128 .f32) : FVec Ideal S1024x128 .f32 :=
  mulf (lg (extractStridedSlice S1024x128 ![0, 384] g slices_S1024x512_S1024x128_0_384)) (Host.tanh c)

theorem cellOf_apply (g : FVec Ideal S1024x512 .f32) (c : FVec Ideal S1024x128 .f32) (b : Fin 1024) (d : Fin 128) :
    cellOf g c (ix2 b d) = nextC (fun q => g (ix2 b q)) (fun e => c (ix2 b e)) d := by
  unfold cellOf
  rw [addf_apply, mulf_apply, mulf_apply, lg_apply, lg_apply, quarter_apply g 128 (by omega), quarter_apply g 0 (by omega)]
  show _ + _ * Ideal.tanh (extractStridedSlice S1024x128 ![0, 256] g slices_S1024x512_S1024x128_0_256 (ix2 b d)) = _
  rw [quarter_apply g 256 (by omega)]
  rfl

theorem hidOf_apply (g : FVec Ideal S1024x512 .f32) (c : FVec Ideal S1024x128 .f32) (b : Fin 1024) (d : Fin 128) :
    hidOf g (cellOf g c) (ix2 b d) = nextH (fun q => g (ix2 b q)) (fun e => c (ix2 b e)) d := by
  unfold hidOf
  rw [mulf_apply, lg_apply, quarter_apply g 384 (by omega)]
  show _ * Ideal.tanh (cellOf g c (ix2 b d)) = _
  rw [cellOf_apply]
  rfl

/-- The operation words as a column of numbers. -/
def opCol (w : IVec S1024 32) : FVec Ideal S1024x1 .f32 :=
  broadcastInDim S1024x1 ![0] bcast_S1024_S1024x1_0 (sitofp .f32 w)

/-- The absolute value as the larger of a number and its negation. -/
def mag (x : EReal) : EReal := max x (-x)

/-- The returned slab from the operations `a`, the new hidden entries, the previous and the current ones. -/
def retOf (a : FVec Ideal S1024x1 .f32) (h prev cur : FVec Ideal S1024x128 .f32) : FVec Ideal S1024x128 .f32 :=
  addf (mulf (addf
      (mulf (broadcastInDim S1024x128 ![0, 1] bcast_S1024x1_S1024x128_0_1
        (addf (broadcastInDim S1024x1 ![] bcast_S_S1024x1 (constant S_ .f32 0x3F800000#32)) a)) h)
      (mulf (broadcastInDim S1024x128 ![0, 1] bcast_S1024x1_S1024x128_0_1
        (subf (broadcastInDim S1024x1 ![] bcast_S_S1024x1 (constant S_ .f32 0x3F800000#32)) a)) prev))
      (broadcastInDim S1024x128 ![0, 1] bcast_S1024x1_S1024x128_0_1 (Host.absf a)))
    (mulf (broadcastInDim S1024x128 ![0, 1] bcast_S1024x1_S1024x128_0_1
      (subf (broadcastInDim S1024x1 ![] bcast_S_S1024x1 (constant S_ .f32 0x3F800000#32)) (Host.absf a))) cur)

theorem col_apply (v : FVec Ideal S1024x1 .f32) (b : Fin 1024) (d : Fin 128) :
    (broadcastInDim S1024x128 ![0, 1] bcast_S1024x1_S1024x128_0_1 v : FVec Ideal S1024x128 .f32) (ix2 b d) = v (ix2 b (0 : Fin 1)) := by
  refine broadcastInDim_apply _ _ v _ (ix2 b (0 : Fin 1)) fun a => ?_
  match a with
  | ⟨0, _⟩ => rfl
  | ⟨1, _⟩ => rfl

theorem retOf_apply (a : FVec Ideal S1024x1 .f32) (h prev cur : FVec Ideal S1024x128 .f32) (b : Fin 1024) (d : Fin 128) :
    retOf a h prev cur (ix2 b d)
      = ((1 + a (ix2 b (0 : Fin 1))) * h (ix2 b d) + (1 - a (ix2 b (0 : Fin 1))) * prev (ix2 b d)) * mag (a (ix2 b (0 : Fin 1)))
        + (1 - mag (a (ix2 b (0 : Fin 1)))) * cur (ix2 b d) := by
  unfold retOf
  rw [addf_apply, mulf_apply, mulf_apply, addf_apply, mulf_apply, mulf_apply, col_apply, col_apply, col_apply, col_apply]
  show ((Ideal.ofBits .f32 0x3F800000#32 + _) * _ + (Ideal.ofBits .f32 0x3F800000#32 - _) * _) * _
    + (Ideal.ofBits .f32 0x3F800000#32 - _) * _ = _
  rw [ofBits_one]
  rfl

/-- After a push the returned entry is twice the new hidden entry. -/
theorem ret_push (w : IVec S1024 32) (h prev cur : FVec Ideal S1024x128 .f32) (b : Fin 1024) (d : Fin 128) (hw : w (ix1 b) = 1#32) :
    retOf (opCol w) h prev cur (ix2 b d) = two * h (ix2 b d) := by
  have e : opCol w (ix2 b (0 : Fin 1)) = 1 := by
    refine (Routing.bcCol _ _ b).trans ?_
    show (((w (ix1 b)).toInt : ℝ) : EReal) = 1
    rw [hw]
    norm_num
  have e1 : mag (1 : EReal) = 1 := by
    unfold mag
    rw [← EReal.coe_one, ← EReal.coe_neg]
    exact max_eq_left (EReal.coe_le_coe_iff.2 (by norm_num))
  have e0 : (1 : EReal) - 1 = 0 := by
    rw [← EReal.coe_one, ← EReal.coe_sub]; norm_num
  rw [retOf_apply, e, e1, e0, zero_mul, zero_mul, add_zero, add_zero, mul_one, one_add_one]

/-- Otherwise it is the current entry. -/
theorem ret_keep (w : IVec S1024 32) (h prev cur : FVec Ideal S1024x128 .f32) (b : Fin 1024) (d : Fin 128) (hw : w (ix1 b) = 0#32) :
    retOf (opCol w) h prev cur (ix2 b d) = cur (ix2 b d) := by
  have e : opCol w (ix2 b (0 : Fin 1)) = 0 := by
    refine (Routing.bcCol _ _ b).trans ?_
    show (((w (ix1 b)).toInt : ℝ) : EReal) = 0
    rw [hw]
    norm_num
  have e1 : mag (0 : EReal) = 0 := by
    unfold mag
    rw [neg_zero, max_self]
  rw [retOf_apply, e, e1, mul_zero, zero_add, sub_zero, one_mul]

end Cert.Proof.RefStep

end
-- ==== Proof.RefTrip.lean ====
/- The loop invariant of the reference: what its carried buffers hold after `k` trips, and that one trip keeps it. -/
module

public import proofs.«01_k».proof.Proof.RefStep

@[expose] public section

noncomputable section

namespace Cert.Proof.RefTrip

open Idealize.ShloMosaic hiding ix1 ix2 ix3 eq_ix1 eq_ix2 eq_ix3
open Idealize.ShloMosaic.TcCoe Idealize.ShloMosaic.ValueIdx
open Cert.ReferenceIdeal Cert.ReferenceIdeal.Gen Cert.ReferenceIdeal.Value
open Cert.Proof.Arith Cert.Proof.Model Cert.Proof.RefOps Cert.Proof.RefStep
open scoped BigOperators

/-- The stack pointer of batch row `b` after operation `n`. -/
def ptr (A : Args) : Nat → Fin 1024 → Nat
  | 0, b => (op A 0 b).toNat
  | n + 1, b => ptr A n b + (op A (n + 1) b).toNat

/-- Every operation keeps the pointer or pushes. -/
def Pushes (A : Args) : Prop := ∀ (n : Nat) (b : Fin 1024), op A n b = 0#32 ∨ op A n b = 1#32

theorem ptr_le (A : Args) (hA : Pushes A) (n : Nat) (b : Fin 1024) : ptr A n b ≤ n + 1 := by
  have h1 : ∀ n, (op A n b).toNat ≤ 1 := fun n => by rcases hA n b with h | h <;> rw [h] <;> decide
  induction n with
  | zero => exact h1 0
  | succ n ih => have := h1 (n + 1); rw [ptr]; omega

/-! ## The carried buffers -/

abbrev Vals := Valuation τ sig (Elt Ideal)

abbrev bX (V : Vals) : FVec Ideal S31x1024x128 .f32 := V (Proc.devRef .tc main_v24_0)
abbrev bPtr (V : Vals) : IVec S31x1024 32 := V (Proc.devRef .tc main_v24_1)
abbrev bPrev (V : Vals) : IVec S31x1024 32 := V (Proc.devRef .tc main_v24_2)
abbrev bOps (V : Vals) : IVec S31x1024 32 := V (Proc.devRef .tc main_v24_3)
abbrev bRow (V : Vals) : IVec S1024 32 := V (Proc.devRef .tc main_v24_4)
abbrev bWih (V : Vals) : FVec Ideal S512x128 .f32 := V (Proc.devRef .tc main_v24_5)
abbrev bBih (V : Vals) : FVec Ideal S512 .f32 := V (Proc.devRef .tc main_v24_6)
abbrev bWhh (V : Vals) : FVec Ideal S512x128 .f32 := V (Proc.devRef .tc main_v24_7)
abbrev bBhh (V : Vals) : FVec Ideal S512 .f32 := V (Proc.devRef .tc main_v24_8)
abbrev bCnt (V : Vals) : IVec S_ 32 := V (Proc.devRef .tc main_v24_9)
abbrev bHid (V : Vals) : FVec Ideal S65x1024x128 .f32 := V (Proc.devRef .tc main_v24_10)
abbrev bCell (V : Vals) : FVec Ideal S65x1024x128 .f32 := V (Proc.devRef .tc main_v24_11)
abbrev bOut (V : Vals) : FVec Ideal S31x1024x128 .f32 := V (Proc.devRef .tc main_v24_12)

/-- The buffers that no trip changes. -/
structure Fixed (A : Args) (V : Vals) : Prop where
  x : ∀ (j : Fin 31) b e, bX V (ix3 j b e) = A.x (ix3 (Fin.ofNat 32 j.val) b e)
  ptr : ∀ (j : Fin 31) b, bPtr V (ix2 j b) = BitVec.ofNat 32 (RefTrip.ptr A j.val b)
  ops : ∀ (j : Fin 31) b, bOps V (ix2 j b) = op A (j.val + 1) b
  row : ∀ b : Fin 1024, bRow V (ix1 b) = BitVec.ofNat 32 b.val
  wih : bWih V = A.wih
  bih : bBih V = A.bih
  whh : bWhh V = A.whh
  bhh : bBhh V = A.bhh

/-- What the carried buffers hold after `k` trips. -/
structure Inv (A : Args) (k : Nat) (V : Vals) : Prop where
  fixed : Fixed A V
  cnt : ∀ j, bCnt V j = BitVec.ofNat 32 k
  hid : ∀ (p : Fin 65) b d, p.val = ptr A k b → bHid V (ix3 p b d) = H A k b d
  cell : ∀ (p : Fin 65) b d, p.val = ptr A k b → bCell V (ix3 p b d) = C A k b d
  out : ∀ (j : Fin 31) b d, j.val < k → bOut V (ix3 j b d) = Model.out A j.val b d

/-! ## One trip in terms of its parts -/

/-- Where the rows of a table with two axes start. -/
def at2 (i : IVec S_ 32) : Fin 2 → Int :=
  fun k => (((![i, constantI S_ 32 0#32] : Fin 2 → (⟨S_, .i32⟩ : BufTy).Contents (Elt Ideal))) k (Shape.Idx.first h_S_)).toInt

/-- Where the slabs of a table with three axes start. -/
def at3 (i : IVec S_ 32) : Fin 3 → Int :=
  fun k => (((![i, constantI S_ 32 0#32, constantI S_ 32 0#32] : Fin 3 → (⟨S_, .i32⟩ : BufTy).Contents (Elt Ideal))) k (Shape.Idx.first h_S_)).toInt

def rowOf (i : IVec S_ 32) (x : IVec S31x1024 32) : IVec S1024 32 :=
  shapeCast S1024 (Host.dynamicSlice S1x1024 x (at2 i) sliceFits_S31x1024_S1x1024) shapeCasts_S1x1024_S1024

def slabOf (i : IVec S_ 32) (x : FVec Ideal S31x1024x128 .f32) : FVec Ideal S1024x128 .f32 :=
  shapeCast S1024x128 (Host.dynamicSlice S1x1024x128 x (at3 i) sliceFits_S31x1024x128_S1x1024x128) shapeCasts_S1x1024x128_S1024x128

/-- The pointers and the batch rows, paired. -/
def pairsOf (V : Vals) (p : IVec S1024 32) : IVec S1024x2 32 := pairs (wrapIdx 65#32 p) (wrapIdx 1024#32 (bRow V))

def nextPtr (V : Vals) : IVec S1024 32 :=
  addi (rowOf (bCnt V) (bPtr V)) (broadcastInDim S1024 ![] bcast_S_S1024 (constantI S_ 32 1#32))

def curHid (V : Vals) : FVec Ideal S1024x128 .f32 := Host.gather gd (bHid V) (pairsOf V (rowOf (bCnt V) (bPtr V)))

def curCell (V : Vals) : FVec Ideal S1024x128 .f32 := Host.gather gd (bCell V) (pairsOf V (rowOf (bCnt V) (bPtr V)))

def gatesV (V : Vals) : FVec Ideal S1024x512 .f32 :=
  gatesOf (slabOf (bCnt V) (bX V)) (curHid V) (bWih V) (bWhh V) (bBih V) (bBhh V)

set_option maxRecDepth 8192

theorem v26_eq (V : Vals) : res_main_while0b_v26 V = rowOf (bCnt V) (bPtr V) := rfl

theorem v42_eq (V : Vals) : res_main_while0b_v42 V = curHid V := rfl

theorem v81_eq (V : Vals) : res_main_while0b_v81 V = gatesV V := by
  unfold res_main_while0b_v81
  rw [v42_eq]
  rfl

theorem v107_eq (V : Vals) : res_main_while0b_v107 V = cellOf (gatesV V) (curCell V) := by
  unfold res_main_while0b_v107
  rw [v81_eq, v26_eq]
  rfl

theorem v109_eq (V : Vals) : res_main_while0b_v109 V = hidOf (gatesV V) (cellOf (gatesV V) (curCell V)) := by
  unfold res_main_while0b_v109
  rw [v81_eq, v107_eq]
  rfl

theorem v111_eq (V : Vals) : res_main_while0b_v111 V = nextPtr V := rfl

theorem v127_eq (V : Vals) : res_main_while0b_v127 V = nextPtr V := rfl

theorem v143_eq (V : Vals) : res_main_while0b_v143 V = opCol (rowOf (bCnt V) (bOps V)) := rfl

theorem step9_eq (V : Vals) : bCnt (STEP V) = addi (bCnt V) (constantI S_ 32 1#32) := STEP_main_v24_9 V

theorem step10_eq (V : Vals) : bHid (STEP V)
    = Host.scatter sd (fun _ b => b) (bHid V) (pairsOf V (nextPtr V)) (hidOf (gatesV V) (cellOf (gatesV V) (curCell V))) := by
  refine (STEP_main_v24_10 V).trans ?_
  unfold step_main_v24_10
  rw [v109_eq, v111_eq, id_eq]
  have e : ∀ i j : IVec S1024x2 32, i = j →
      Host.scatter sd (fun _ b => b) (bHid V) i (hidOf (gatesV V) (cellOf (gatesV V) (curCell V)))
        = Host.scatter sd (fun _ b => b) (bHid V) j (hidOf (gatesV V) (cellOf (gatesV V) (curCell V))) := fun i j hij => by rw [hij]
  exact e _ (pairsOf V (nextPtr V)) rfl

theorem step11_eq (V : Vals) : bCell (STEP V)
    = Host.scatter sd (fun _ b => b) (bCell V) (pairsOf V (nextPtr V)) (cellOf (gatesV V) (curCell V)) := by
  refine (STEP_main_v24_11 V).trans ?_
  unfold step_main_v24_11
  rw [v107_eq, v127_eq, id_eq]
  have e : ∀ i j : IVec S1024x2 32, i = j →
      Host.scatter sd (fun _ b => b) (bCell V) i (cellOf (gatesV V) (curCell V))
        = Host.scatter sd (fun _ b => b) (bCell V) j (cellOf (gatesV V) (curCell V)) := fun i j hij => by rw [hij]
  exact e _ (pairsOf V (nextPtr V)) rfl

theorem step12_eq (V : Vals) : ∃ prev : FVec Ideal S1024x128 .f32, bOut (STEP V)
    = Host.dynamicUpdateSlice (bOut V) (broadcastInDim S1x1024x128 ![1, 2] bcast_S1024x128_S1x1024x128_1_2
        (retOf (opCol (rowOf (bCnt V) (bOps V))) (hidOf (gatesV V) (cellOf (gatesV V) (curCell V))) prev (curHid V)))
      (at3 (bCnt V)) updateFits_S31x1024x128_S1x1024x128 := by
  refine ⟨Host.gather gd (bHid V) (pairsOf V (rowOf (bCnt V) (bPrev V))), (STEP_main_v24_12 V).trans ?_⟩
  unfold step_main_v24_12 res_main_while0b_v144
  rw [v109_eq, v143_eq, v42_eq]
  rfl

/-! ## One trip's values -/

section Trip

variable {A : Args} {V : Vals} (k : Fin 31) (hA : Pushes A) (h : Inv A k.val V)

include h in
theorem at2_zero : at2 (bCnt V) 0 = (k.val : Int) ∧ at2 (bCnt V) 1 = 0 := by
  refine ⟨?_, rfl⟩
  show (bCnt V (Shape.Idx.first h_S_)).toInt = _
  rw [h.cnt]
  exact StableHlo.Predicate.toInt_ofNat_small _ (by omega)

include h in
theorem at3_zero : at3 (bCnt V) 0 = (k.val : Int) ∧ at3 (bCnt V) 1 = 0 ∧ at3 (bCnt V) 2 = 0 := by
  refine ⟨?_, rfl, rfl⟩
  show (bCnt V (Shape.Idx.first h_S_)).toInt = _
  rw [h.cnt]
  exact StableHlo.Predicate.toInt_ofNat_small _ (by omega)

include h in
theorem ptr_apply (b : Fin 1024) : rowOf (bCnt V) (bPtr V) (ix1 b) = BitVec.ofNat 32 (ptr A k.val b) :=
  (row2_apply (bPtr V) _ k (at2_zero k h).1 (at2_zero k h).2 b).trans (h.fixed.ptr k b)

include h in
theorem ops_apply (b : Fin 1024) : rowOf (bCnt V) (bOps V) (ix1 b) = op A (k.val + 1) b :=
  (row2_apply (bOps V) _ k (at2_zero k h).1 (at2_zero k h).2 b).trans (h.fixed.ops k b)

include h in
theorem nextPtr_apply (b : Fin 1024) : nextPtr V (ix1 b) = BitVec.ofNat 32 (ptr A k.val b + 1) := by
  show rowOf (bCnt V) (bPtr V) (ix1 b) + 1#32 = _
  rw [ptr_apply k h]
  exact (BitVec.ofNat_add _ 1).symm

include h in
theorem pairsOf_snd (p : IVec S1024 32) (b : Fin 1024) : pairsOf V p (ix2 b (1 : Fin 2)) = BitVec.ofNat 32 b.val := by
  unfold pairsOf
  rw [pairs_snd, wrapIdx_apply, h.fixed.row]
  rw [h.fixed.row, BitVec.toNat_ofNat]
  omega

theorem pairsOf_fst (p : IVec S1024 32) (n : Nat) (hn : n < 65) (b : Fin 1024) (hp : p (ix1 b) = BitVec.ofNat 32 n) :
    pairsOf V p (ix2 b (0 : Fin 2)) = BitVec.ofNat 32 n := by
  unfold pairsOf
  rw [pairs_fst, wrapIdx_apply, hp]
  rw [hp, BitVec.toNat_ofNat]
  omega

include hA h in
theorem curHid_apply (b : Fin 1024) (d : Fin 128) : curHid V (ix2 b d) = H A k.val b d := by
  have hle := ptr_le A hA k.val b
  have hk := k.isLt
  have hlt : ptr A k.val b < 65 := by omega
  exact (gather_apply _ _ b d ⟨ptr A k.val b, hlt⟩ (pairsOf_fst _ _ hlt b (ptr_apply k h b)) (pairsOf_snd k h _ b)).trans
    (h.hid _ b d rfl)

include hA h in
theorem curCell_apply (b : Fin 1024) (d : Fin 128) : curCell V (ix2 b d) = C A k.val b d := by
  have hle := ptr_le A hA k.val b
  have hk := k.isLt
  have hlt : ptr A k.val b < 65 := by omega
  exact (gather_apply _ _ b d ⟨ptr A k.val b, hlt⟩ (pairsOf_fst _ _ hlt b (ptr_apply k h b)) (pairsOf_snd k h _ b)).trans
    (h.cell _ b d rfl)

include hA h in
theorem gates_apply (b : Fin 1024) (q : Fin 512) : gatesV V (ix2 b q) = gate A k.val b (H A k.val b) q := by
  unfold gatesV gate xgate hgate
  rw [gatesOf_apply, h.fixed.wih, h.fixed.bih, h.fixed.whh, h.fixed.bhh]
  have e1 : ∀ e : Fin 128, slabOf (bCnt V) (bX V) (ix2 b e) = A.x (ix3 (Fin.ofNat 32 k.val) b e) := fun e =>
    (row3_apply (bX V) _ k (at3_zero k h).1 (at3_zero k h).2.1 (at3_zero k h).2.2 b e).trans (h.fixed.x k b e)
  simp only [e1, curHid_apply k hA h]

include hA h in
theorem newCell_apply (b : Fin 1024) (d : Fin 128) : cellOf (gatesV V) (curCell V) (ix2 b d) = newC A k.val b d := by
  rw [cellOf_apply]
  simp only [gates_apply k hA h, curCell_apply k hA h]
  rfl

include hA h in
theorem newHid_apply (b : Fin 1024) (d : Fin 128) :
    hidOf (gatesV V) (cellOf (gatesV V) (curCell V)) (ix2 b d) = newH A k.val b d := by
  rw [hidOf_apply]
  simp only [gates_apply k hA h, curCell_apply k hA h]
  rfl

include hA h in
theorem stack_apply (x : FVec Ideal S65x1024x128 .f32) (u : FVec Ideal S1024x128 .f32) (p : Fin 65) (b : Fin 1024) (d : Fin 128) :
    Host.scatter sd (fun _ b => b) x (pairsOf V (nextPtr V)) u (ix3 p b d)
      = if ptr A k.val b + 1 = p.val then u (ix2 b d) else x (ix3 p b d) := by
  have hlt : ∀ b, ptr A k.val b + 1 < 65 := fun b => by
    have hle := ptr_le A hA k.val b
    have hk := k.isLt
    omega
  exact scatter_apply x _ u (fun b => ptr A k.val b + 1) hlt (fun b => pairsOf_fst _ _ (hlt b) b (nextPtr_apply k h b))
    (fun b => pairsOf_snd k h _ b) p b d

include h in
theorem fixed_step : Fixed A (STEP V) where
  x j b e := (congrFun (STEP_main_v24_0 V) _).trans (h.fixed.x j b e)
  ptr j b := (congrFun (STEP_main_v24_1 V) _).trans (h.fixed.ptr j b)
  ops j b := (congrFun (STEP_main_v24_3 V) _).trans (h.fixed.ops j b)
  row b := (congrFun (STEP_main_v24_4 V) _).trans (h.fixed.row b)
  wih := (STEP_main_v24_5 V).trans h.fixed.wih
  bih := (STEP_main_v24_6 V).trans h.fixed.bih
  whh := (STEP_main_v24_7 V).trans h.fixed.whh
  bhh := (STEP_main_v24_8 V).trans h.fixed.bhh

include hA h in
/-- One trip keeps the invariant. -/
theorem inv_step : Inv A (k.val + 1) (STEP V) where
  fixed := fixed_step k h
  cnt j := by
    rw [step9_eq]
    show bCnt V j + 1#32 = _
    rw [h.cnt]
    exact (BitVec.ofNat_add _ 1).symm
  hid p b d hp := by
    rw [step10_eq, stack_apply k hA h, H_succ, newHid_apply k hA h]
    rw [ptr] at hp
    rcases hA (k.val + 1) b with e | e <;> rw [e] at hp ⊢
    · have hp' : p.val = ptr A k.val b := hp
      rw [if_neg (by omega), if_pos rfl]
      exact h.hid p b d hp'
    · have hp' : p.val = ptr A k.val b + 1 := hp
      rw [if_pos hp'.symm, if_neg (by decide)]
  cell p b d hp := by
    rw [step11_eq, stack_apply k hA h, C_succ, newCell_apply k hA h]
    rw [ptr] at hp
    rcases hA (k.val + 1) b with e | e <;> rw [e] at hp ⊢
    · have hp' : p.val = ptr A k.val b := hp
      rw [if_neg (by omega), if_pos rfl]
      exact h.cell p b d hp'
    · have hp' : p.val = ptr A k.val b + 1 := hp
      rw [if_pos hp'.symm, if_neg (by decide)]
  out j b d hj := by
    obtain ⟨prev, e⟩ := step12_eq V
    rw [e, put3_apply _ _ _ k (at3_zero k h).1 (at3_zero k h).2.1 (at3_zero k h).2.2]
    by_cases hjk : j = k
    · subst hjk
      rw [if_pos rfl, Model.out]
      rcases hA (j.val + 1) b with e | e
      · rw [if_pos e, ret_keep _ _ _ _ _ _ ((ops_apply j h b).trans e), curHid_apply j hA h]
      · rw [if_neg (by rw [e]; decide), ret_push _ _ _ _ _ _ ((ops_apply j h b).trans e), newHid_apply j hA h]
    · rw [if_neg hjk]
      refine h.out j b d ?_
      have : j.val ≠ k.val := fun q => hjk (Fin.ext q)
      omega

end Trip

/-- After `k` trips the invariant holds for `k`, if it holds for 0 at the entry. -/
theorem inv_iter (A : Args) (hA : Pushes A) (V : Vals) (h : Inv A 0 V) : ∀ k : Nat, k ≤ 31 → Inv A k (STEP^[k] V)
  | 0, _ => h
  | k + 1, hk => by
    rw [Function.iterate_succ_apply']
    exact inv_step ⟨k, by omega⟩ hA (inv_iter A hA V h k (by omega))

end Cert.Proof.RefTrip

end
-- ==== Proof.RefEntry.lean ====
/- What the reference's carried buffers hold when its loop starts: the invariant of the loop after no trips. -/
module

public import proofs.«01_k».proof.Proof.RefTrip
public import Idealize.ShloMosaic.Lib.StableHlo.RunRead

@[expose] public section

noncomputable section

namespace Cert.Proof.RefEntry

open Idealize.ShloMosaic hiding ix1 ix2 ix3 eq_ix1 eq_ix2 eq_ix3
open Idealize.ShloMosaic.TcCoe Idealize.ShloMosaic.ValueIdx
open Idealize.ShloMosaic.StableHlo
open Cert.ReferenceIdeal Cert.ReferenceIdeal.Gen Cert.ReferenceIdeal.Value
open Cert.Proof.Arith Cert.Proof.Model Cert.Proof.RefOps Cert.Proof.RefTrip
open scoped BigOperators

variable (m : (ℓ : Loc nD τ sig) → Buf (Elt Ideal) ℓ) (c : Dev nD)

/-- The reference's arguments on core `c`. -/
def args : Args where
  x := m ((c : Thread nD τ).loc main_arg0)
  ops := m ((c : Thread nD τ).loc main_arg1)
  wih := m ((c : Thread nD τ).loc main_arg2)
  whh := m ((c : Thread nD τ).loc main_arg3)
  bih := m ((c : Thread nD τ).loc main_arg4)
  bhh := m ((c : Thread nD τ).loc main_arg5)
  h0 := m ((c : Thread nD τ).loc main_arg6)
  c0 := m ((c : Thread nD τ).loc main_arg7)

/-- The running sums of the operations. -/
def sums (ops : IVec S32x1024 32) : IVec S32x1024 32 :=
  Host.reduceWindow IntOp.addi ![32, 1] ![1, 1] ![31, 0] ![0, 0] ops (broadcastInDim S_ ![] bcast_S_S_ (constantI S_ 32 0#32))
    reduceWindows_S32x1024_S32x1024_w32s1p31_0_w1s1p0_0 h_S_

/-- A stack of zeros but for entry 0, which is `v` in every batch row. -/
def stack0 (v : FVec Ideal S128 .f32) : FVec Ideal S65x1024x128 .f32 :=
  Host.scatter sd0 (fun _ b => b) (broadcastInDim S65x1024x128 ![] bcast_S_S65x1024x128 (constant S_ .f32 0x00000000#32))
    (broadcastInDim S1 ![] bcast_S_S1 (constantI S_ 32 0#32)) (broadcastInDim S1024x128 ![1] bcast_S128_S1024x128_1 v)

abbrev V0 : Vals := entryContents preI m c

section Reads

set_option maxRecDepth 65536
set_option maxHeartbeats 600000

theorem e0 : bX (V0 m c) = extractStridedSlice S31x1024x128 ![0, 0, 0] (args m c).x slices_S32x1024x128_S31x1024x128_0_0_0 := by
  simp only [V0, bX, entryContents, afterL_cons, afterL_nil]
  after_reads_simp
  rfl

theorem e1 : bPtr (V0 m c) = extractStridedSlice S31x1024 ![0, 0] (sums (args m c).ops) slices_S32x1024_S31x1024_0_0 := by
  simp only [V0, bPtr, entryContents, afterL_cons, afterL_nil]
  after_reads_simp
  simp only [TRef.ofBuf, TRef.toBuf, cast_cast, cast_eq, id_eq]
  have e : launchContents m c (Proc.devRef .tc main_arg1) = (args m c).ops := rfl
  unfold sums
  rw [e]

theorem e3 : bOps (V0 m c) = extractStridedSlice S31x1024 ![1, 0] (args m c).ops slices_S32x1024_S31x1024_1_0 := by
  simp only [V0, bOps, entryContents, afterL_cons, afterL_nil]
  after_reads_simp
  rfl

theorem e4 : bRow (V0 m c) = iotaInDim S1024 32 0 := by
  simp only [V0, bRow, entryContents, afterL_cons, afterL_nil]
  after_reads_simp
  rfl

theorem e5 : bWih (V0 m c) = (args m c).wih := by
  simp only [V0, bWih, entryContents, afterL_cons, afterL_nil]
  after_reads_simp
  rfl

theorem e6 : bBih (V0 m c) = (args m c).bih := by
  simp only [V0, bBih, entryContents, afterL_cons, afterL_nil]
  after_reads_simp
  rfl

theorem e7 : bWhh (V0 m c) = (args m c).whh := by
  simp only [V0, bWhh, entryContents, afterL_cons, afterL_nil]
  after_reads_simp
  rfl

theorem e8 : bBhh (V0 m c) = (args m c).bhh := by
  simp only [V0, bBhh, entryContents, afterL_cons, afterL_nil]
  after_reads_simp
  rfl

theorem e9 : bCnt (V0 m c) = fun _ => 0#32 := ctr_entry m c

theorem e10 : bHid (V0 m c) = stack0 (args m c).h0 := by
  simp only [V0, bHid, entryContents, afterL_cons, afterL_nil]
  after_reads_simp
  have e : launchContents m c (Proc.devRef .tc main_arg6) = (args m c).h0 := rfl
  unfold stack0
  rw [id_eq, e]

theorem e11 : bCell (V0 m c) = stack0 (args m c).c0 := by
  simp only [V0, bCell, entryContents, afterL_cons, afterL_nil]
  after_reads_simp
  have e : launchContents m c (Proc.devRef .tc main_arg7) = (args m c).c0 := rfl
  unfold stack0
  rw [id_eq, e]

end Reads

/-! ## At an index -/

theorem stack0_apply (v : FVec Ideal S128 .f32) (p : Fin 65) (b : Fin 1024) (d : Fin 128) :
    stack0 v (ix3 p b d) = if p.val = 0 then v (ix1 d) else 0 := by
  unfold stack0
  rw [scatter0_apply _ _ (fun _ => rfl)]
  have e : (broadcastInDim S1024x128 ![1] bcast_S128_S1024x128_1 v : FVec Ideal S1024x128 .f32) (ix2 b d) = v (ix1 d) := by
    refine broadcastInDim_apply _ _ v _ (ix1 d) fun a => ?_
    match a with
    | ⟨0, _⟩ => rfl
  rw [e]
  refine congrArg (fun z : EReal => if p.val = 0 then v (ix1 d) else z) ?_
  show Ideal.ofBits .f32 0x00000000#32 = 0
  exact ofBits_zero

theorem range_sum (A : Args) (b : Fin 1024) : ∀ n : Nat, ((List.range (n + 1)).map fun i => (op A i b).toNat).sum = ptr A n b
  | 0 => by simp [ptr]
  | n + 1 => by
    rw [List.range_succ, List.map_append, List.sum_append, range_sum A b n, ptr]
    simp

theorem sums_apply (j : Fin 32) (b : Fin 1024) : sums (args m c).ops (ix2 j b) = BitVec.ofNat 32 (ptr (args m c) j.val b) := by
  refine (Routing.cumsum_rows (R := 32) (Rm1 := 31) (C := 1024) rfl (args m c).ops
    (fun i b => (op (args m c) i (Fin.ofNat 1024 b)).toNat) (fun i b => ?_) _ rfl _ _ j b).trans ?_
  · show _ = BitVec.ofNat 32 ((args m c).ops (ix2 (Fin.ofNat 32 i.val) (Fin.ofNat 1024 b.val))).toNat
    rw [BitVec.ofNat_toNat, BitVec.setWidth_eq, Fin.ofNat_val_eq_self, Fin.ofNat_val_eq_self]
  · rw [← range_sum]
    simp only [Fin.ofNat_val_eq_self]

/-- The invariant holds when the loop starts. -/
theorem inv_entry (hA : Pushes (args m c)) : Inv (args m c) 0 (V0 m c) where
  fixed := {
    x := fun j b e => by
      rw [e0]
      refine extractStridedSlice_apply _ _ _ _ (ix3 (Fin.ofNat 32 j.val) b e) fun a => ?_
      match a with
      | ⟨0, _⟩ => show j.val % 32 = 0 + j.val; omega
      | ⟨1, _⟩ => show b.val = 0 + b.val; omega
      | ⟨2, _⟩ => show e.val = 0 + e.val; omega
    ptr := fun j b => by
      rw [e1, slice2_axis0_apply 0 _ _ j b ⟨j.val, by omega⟩ (by simp), sums_apply]
    ops := fun j b => by
      rw [e3]
      exact slice2_axis0_apply 1 _ _ j b (Fin.ofNat 32 (j.val + 1)) (by show (j.val + 1) % 32 = 1 + j.val; omega)
    row := fun b => by rw [e4]; rfl
    wih := e5 m c
    bih := e6 m c
    whh := e7 m c
    bhh := e8 m c }
  cnt j := by rw [e9]
  hid p b d hp := by
    rw [e10, stack0_apply, H_zero]
    rw [ptr] at hp
    rcases hA 0 b with e | e <;> rw [e] at hp ⊢
    · have hp' : p.val = 0 := hp
      rw [if_pos hp', if_pos rfl]
    · have hp' : p.val = 1 := hp
      rw [if_neg (by omega), if_neg (by decide)]
  cell p b d hp := by
    rw [e11, stack0_apply, C_zero]
    rw [ptr] at hp
    rcases hA 0 b with e | e <;> rw [e] at hp ⊢
    · have hp' : p.val = 0 := hp
      rw [if_pos hp', if_pos rfl]
    · have hp' : p.val = 1 := hp
      rw [if_neg (by omega), if_neg (by decide)]
  out j b d hj := absurd hj (Nat.not_lt_zero _)

/-- What the reference returns: the outputs of the stack machine. -/
theorem result_apply (hA : Pushes (args m c)) (n : Fin 31) (b : Fin 1024) (d : Fin 128) :
    bOut (STEP^[31] (entryContents preI m c)) (ix3 n b d) = Model.out (args m c) n.val b d :=
  (inv_iter _ hA _ (inv_entry m c hA) 31 (le_refl _)).out n b d n.isLt

end Cert.Proof.RefEntry

end
-- ==== Proof.Equation.lean ====
/- The equation: under the precondition, kernel and reference return equal arrays from equal arguments. -/
module

public import proofs.«01_k».proof.Defs
public import proofs.«01_k».proof.Proof.KernelValue
public import proofs.«01_k».proof.Proof.RefEntry
public import proofs.«01_k».proof.Proof.Gen.Pre_pushes
public import Idealize.ShloMosaic.Lib.ReduceAll

@[expose] public section

noncomputable section

namespace Cert.Proof.Equation

open Idealize.ShloMosaic hiding ix0 ix1 ix2 ix3 eq_ix1 eq_ix2 eq_ix3
open Idealize.ShloMosaic.TcCoe Idealize.ShloMosaic.ValueIdx
open Idealize.SL Idealize.SL.Sem
open Cert.Proof.Model Cert.Proof.RefTrip

/-- A word from 0 to 1, read signed, is 0 or 1. -/
theorem zero_or_one (x : BitVec 32) (h0 : 0 ≤ x.toInt) (h1 : x.toInt ≤ 1) : x = 0#32 ∨ x = 1#32 := by
  rcases (by omega : x.toInt = 0 ∨ x.toInt = 1) with h | h
  · exact Or.inl (BitVec.eq_of_toInt_eq (h.trans (by decide)))
  · exact Or.inr (BitVec.eq_of_toInt_eq (h.trans (by decide)))

/-- The precondition says that every operation keeps the pointer or pushes. -/
theorem pushes_of_pre (m : (ℓ : Loc Cert.KernelIdeal.nD Cert.KernelIdeal.τ Cert.KernelIdeal.sig) → Buf (Elt Ideal) ℓ)
    (h : Cert.Pre_KernelIdeal_pushes m) (c : Dev Cert.KernelIdeal.nD) : Pushes (KernelValue.args m c) := by
  intro n b
  have e := congrFun (h c) ix0
  have : Subsingleton Cert.Pre_pushes.S_.Idx := ⟨fun i j => (eq_ix0 i).trans (eq_ix0 j).symm⟩
  have hx := Host.reduce_andi_all _ _ _ _ _ e (ix2 (Fin.ofNat 32 n) b)
  have hx' : IntOp.andi (IntOp.cmpi .sge (op (KernelValue.args m c) n b) 0#32) (IntOp.cmpi .sle (op (KernelValue.args m c) n b) 1#32) = 1#1 := hx
  rw [WordCmp.cmpi_sge_eq, WordCmp.cmpi_sle_eq, WordCmp.andi_ofBool, StableHlo.Predicate.ofBool_eq_one_iff, Bool.and_eq_true,
    decide_eq_true_iff, decide_eq_true_iff] at hx'
  exact zero_or_one _ hx'.1 hx'.2

/-- Equal argument arrays are equal arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c : Thread Cert.ReferenceIdeal.nD Cert.ReferenceIdeal.τ).loc Cert.ReferenceIdeal.main_arg0) = (KernelValue.args m c).x)
    (h1 : m' ((c : Thread Cert.ReferenceIdeal.nD Cert.ReferenceIdeal.τ).loc Cert.ReferenceIdeal.main_arg1) = (KernelValue.args m c).ops)
    (h2 : m' ((c : Thread Cert.ReferenceIdeal.nD Cert.ReferenceIdeal.τ).loc Cert.ReferenceIdeal.main_arg2) = (KernelValue.args m c).wih)
    (h3 : m' ((c : Thread Cert.ReferenceIdeal.nD Cert.ReferenceIdeal.τ).loc Cert.ReferenceIdeal.main_arg3) = (KernelValue.args m c).whh)
    (h4 : m' ((c : Thread Cert.ReferenceIdeal.nD Cert.ReferenceIdeal.τ).loc Cert.ReferenceIdeal.main_arg4) = (KernelValue.args m c).bih)
    (h5 : m' ((c : Thread Cert.ReferenceIdeal.nD Cert.ReferenceIdeal.τ).loc Cert.ReferenceIdeal.main_arg5) = (KernelValue.args m c).bhh)
    (h6 : m' ((c : Thread Cert.ReferenceIdeal.nD Cert.ReferenceIdeal.τ).loc Cert.ReferenceIdeal.main_arg6) = (KernelValue.args m c).h0)
    (h7 : m' ((c : Thread Cert.ReferenceIdeal.nD Cert.ReferenceIdeal.τ).loc Cert.ReferenceIdeal.main_arg7) = (KernelValue.args m c).c0) :
    RefEntry.args m' c = KernelValue.args m c := by
  unfold RefEntry.args
  rw [h0, h1, h2, h3, h4, h5, h6, h7]

/-- The two returned arrays are equal. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hA : Pushes (KernelValue.args m c)) (e : RefEntry.args m' c = KernelValue.args m c) :
    bOut (Cert.ReferenceIdeal.Value.STEP^[31] (RefEntry.V0 m' c)) = Cert.KernelIdeal.Value.G7 m c := by
  funext i
  obtain ⟨n, b, d, rfl⟩ : ∃ n b d, i = ix3 n b d := ⟨i 0, i 1, i 2, eq_ix3 i⟩
  refine Eq.trans ?_ (KernelValue.G7_apply m c n b d).symm
  rw [← e] at hA ⊢
  exact RefEntry.result_apply m' c hA n b d

/-- Kernel and reference, from equal arguments, end with equal results and unchanged arguments. -/
theorem algebraic : Cert.algebraic_KernelIdeal_ReferenceIdeal_pre_pushes := by
  intro m g m' g' hpre hargs
  refine ⟨fun c => Cert.KernelIdeal.Value.G7 m c, Cert.KernelIdeal.Value.run m g,
    θ_run_mono (Cert.ReferenceIdeal.Value.run m' g') fun r h c => ⟨(h c).1.trans ?_, (h c).2⟩⟩
  have ha := hargs c
  exact results_eq m m' c (pushes_of_pre m hpre c) (args_eq m m' c ha.1 ha.2.1 ha.2.2.1 ha.2.2.2.1 ha.2.2.2.2.1 ha.2.2.2.2.2.1
    ha.2.2.2.2.2.2.1 ha.2.2.2.2.2.2.2)

end Cert.Proof.Equation

end
-- ==== Proof.lean ====
module

public import proofs.«01_k».proof.Proof.Gen.KernelIdeal.Value
public import proofs.«01_k».proof.Proof.Gen.ReferenceIdeal.Run
public import proofs.«01_k».proof.Defs
public import proofs.«01_k».proof.Proof.Equation
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pushes
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference has no semaphore, so its run ends with every counter at zero. -/
theorem ref_frame (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩ (fun r =>
      (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4)
        ∧ r.2.mem ((c.tc : Thread ReferenceIdeal.nD ReferenceIdeal.τ).loc ReferenceIdeal.main_arg5) = m ((c.tc : Thread ReferenceIdeal.nD ReferenceIdeal.τ).loc ReferenceIdeal.main_arg5)
        ∧ r.2.mem ((c.tc : Thread ReferenceIdeal.nD ReferenceIdeal.τ).loc ReferenceIdeal.main_arg6) = m ((c.tc : Thread ReferenceIdeal.nD ReferenceIdeal.τ).loc ReferenceIdeal.main_arg6)
        ∧ r.2.mem ((c.tc : Thread ReferenceIdeal.nD ReferenceIdeal.τ).loc ReferenceIdeal.main_arg7) = m ((c.tc : Thread ReferenceIdeal.nD ReferenceIdeal.τ).loc ReferenceIdeal.main_arg7))
      ∧ r.2.sem = fun _ => 0) :=
  θ_run_mono (ReferenceIdeal.Value.run m g) (fun r h => ⟨fun c => (h c).2, sem_eq_zero_of_no_sems rfl r.2⟩)

theorem claim : Cert.Claim := ⟨Cert.Kernel.Gen.facts, Cert.KernelIdeal.Gen.facts, Cert.ReferenceIdeal.Gen.facts, Cert.Pre_pushes.Gen.facts,
  fun m g _ => Cert.Kernel.Gen.frame m g, fun m g _ => Cert.KernelIdeal.Gen.frame m g, fun m g _ => Cert.KernelIdeal.Gen.frame m g,
  fun m g _ => ref_frame m g, fun m g _ => ref_frame m g, trivial, Equation.algebraic⟩

end Cert.Proof

end
